-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1]⟩ ⟨2, ![8192, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32x128 : Shape := ⟨2, ![32, 128]⟩
abbrev S8x512x1024 : Shape := ⟨3, ![8, 512, 1024]⟩
abbrev S8 : Shape := ⟨1, ![8]⟩
abbrev S2 : Shape := ⟨1, ![2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S512 : Shape := ⟨1, ![512]⟩
abbrev S4x128 : Shape := ⟨2, ![4, 128]⟩
abbrev S16x128 : Shape := ⟨2, ![16, 128]⟩
abbrev S4096x1 : Shape := ⟨2, ![4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S32x128, .bf16⟩
  | .hbm, ⟨2, _⟩ => ⟨S4096x1, .bf16⟩
  | .local _ .vmem, ⟨0, _⟩ => ⟨S32x128, .bf16⟩
  | .local _ .vmem, ⟨1, _⟩ => ⟨S8x512x1024, .bf16⟩
  | .local _ .vmem, ⟨2, _⟩ => ⟨S32x128, .bf16⟩
  | .local _ .vmem, ⟨3, _⟩ => ⟨S32x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_86 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_85 : BitVec 32 := 2#32
  let v100 : BitVec 32 := Scalar.muli v2 c2_i32_85
  let v101 : BitVec 32 := Scalar.addi c0_i32_86 v100
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_87 : BitVec 32 := 1#32
  let v102 : BitVec 32 := Scalar.muli v6 c1_i32_87
  let v103 : BitVec 32 := Scalar.addi v101 v102
  v103.toNat
def k0_dev3 (d0 : Dev nD) : Nat :=
  let c0_i32_136 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_135 : BitVec 32 := 2#32
  let v158 : BitVec 32 := Scalar.muli v2 c2_i32_135
  let v159 : BitVec 32 := Scalar.addi c0_i32_136 v158
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_137 : BitVec 32 := 1#32
  let v160 : BitVec 32 := Scalar.muli v6 c1_i32_137
  let v161 : BitVec 32 := Scalar.addi v159 v160
  v161.toNat
abbrev stage0_0 : Fin 1 → Memref sig .tc .vmem S32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S_, .bf16⟩
  | .hbm, ⟨2, _⟩ => ⟨S8192, .bf16⟩
  | .hbm, ⟨3, _⟩ => ⟨S8192x1, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Views.lean ====
/-
  The pieces of the row-maximum kernel's buffers, and what they hold.

  A device's block of the argument is read in eight blocks of 512 rows, each copied into its own slice of the
  staging scratch. The maxima of the 512 rows of block `b` are packed, 128 to a row, into rows `4b .. 4b+3` of
  the send scratch. The send scratch leaves for the other device of the same mesh row in two halves of 16 rows.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.RegionTalk
public import Idealize.ShloMosaic.Lib.Rounds
public import Idealize.ShloMosaic.Lib.Ring
public import Idealize.ShloMosaic.Lib.ViewIndex

@[expose] public section

noncomputable section

namespace RowMax

open Cert.KernelIdeal Cert.KernelIdeal.Gen
open Idealize.ShloMosaic Idealize.ShloMosaic.TcCoe
open Idealize.SL Idealize.SL.RA Idealize.SL.BI

variable {F : FTy → Type} [FloatOps F]

/-! ## The other device of a mesh row -/

/-- The device that shares `c`'s mesh row: the second coordinate flipped. -/
noncomputable def peer (c : Dev nD) : Dev nD := ⟨(2 * (c.val / 2) + 1) - c.val % 2, by have h : c.val < 4 := c.isLt; show _ < 4; omega⟩

theorem peer_peer (c : Dev nD) : peer (peer c) = c := by revert c; decide

/-- Passing to the other device, as a bijection of the devices. -/
noncomputable def swap : Dev nD ≃ Dev nD := ⟨peer, peer, peer_peer, peer_peer⟩

theorem dev1_peer (c : Dev nD) : (⟨k0_dev1 c, k0_dev1_lt c⟩ : Dev nD) = peer c := Fin.ext (k0_dev1_eq c)
theorem dev2_peer (c : Dev nD) : (⟨k0_dev2 c, k0_dev2_lt c⟩ : Dev nD) = peer c := Fin.ext (k0_dev2_eq c)
theorem dev3_peer (c : Dev nD) : (⟨k0_dev3 c, k0_dev3_lt c⟩ : Dev nD) = peer c := Fin.ext (k0_dev3_eq c)

/-! ## The memrefs -/

/-- The argument block, the staging scratch, the packed maxima to send, the packed maxima received, and the
    result's buffer, each whole. -/
noncomputable abbrev argM : Memref sig .tc .hbm S4096x1024 .bf16 := Memref.whole main_arg0
noncomputable abbrev stgM : Memref sig .tc .vmem S8x512x1024 .bf16 := Memref.whole cc0_scratch0
noncomputable abbrev sndM : Memref sig .tc .vmem S32x128 .bf16 := Memref.whole cc0_scratch1
noncomputable abbrev rcvM : Memref sig .tc .vmem S32x128 .bf16 := Memref.whole cc0_scratch2
noncomputable abbrev outM : Memref sig .tc .vmem S32x128 .bf16 := Memref.whole cc0_stg0_0

theorem inbRows (b : Fin 8) : ∀ a, (![512 * b.val, 0] : Fin 2 → Nat) a + S512x1024.size a ≤ S4096x1024.size a := by
  revert b; decide
theorem inbSlab (b : Fin 8) : ∀ a, (![b.val, 0, 0] : Fin 3 → Nat) a + S1x512x1024.size a ≤ S8x512x1024.size a := by
  revert b; decide
theorem inbPack (b : Fin 8) : ∀ a, (![4 * b.val, 0] : Fin 2 → Nat) a + S4x128.size a ≤ S32x128.size a := by
  revert b; decide
theorem inbHalf (h : Fin 2) : ∀ a, (![16 * h.val, 0] : Fin 2 → Nat) a + S16x128.size a ≤ S32x128.size a := by
  revert h; decide

/-- Rows `512 b .. 512 b + 511` of the argument block. -/
noncomputable abbrev rowsR (b : Fin 8) : Rect S4096x1024 := Rect.unit (s := S4096x1024) ![512 * b.val, 0] S512x1024.size (inbRows b)
/-- Slab `b` of the staging scratch. -/
noncomputable abbrev slabR (b : Fin 8) : Rect S8x512x1024 := Rect.unit (s := S8x512x1024) ![b.val, 0, 0] S1x512x1024.size (inbSlab b)
/-- The four rows of packed maxima that block `b` fills. -/
noncomputable abbrev packR (b : Fin 8) : Rect S32x128 := Rect.unit (s := S32x128) ![4 * b.val, 0] S4x128.size (inbPack b)
/-- Half `h` of a buffer of packed maxima. -/
noncomputable abbrev halfR (h : Fin 2) : Rect S32x128 := Rect.unit (s := S32x128) ![16 * h.val, 0] S16x128.size (inbHalf h)

noncomputable abbrev rowsM (b : Fin 8) : Memref sig .tc .hbm S512x1024 .bf16 := argM.slice (rowsR b) (fun _ => rfl)
noncomputable abbrev slabM (b : Fin 8) : Memref sig .tc .vmem S512x1024 .bf16 :=
  (stgM.slice (slabR b) (fun _ => rfl)).squeeze S512x1024 squeezes_S1x512x1024_S512x1024
noncomputable abbrev sndH (h : Fin 2) : Memref sig .tc .vmem S16x128 .bf16 := sndM.slice (halfR h) (fun _ => rfl)
noncomputable abbrev rcvH (h : Fin 2) : Memref sig .tc .vmem S16x128 .bf16 := rcvM.slice (halfR h) (fun _ => rfl)

/-- The semaphores: block `b`'s landing, half `h`'s departure and half `h`'s arrival. -/
noncomputable abbrev inS (b : Fin 8) : DmaSem sig := ⟨b.val + 1, by have := b.isLt; show _ < 13; omega⟩
noncomputable abbrev outS (h : Fin 2) : DmaSem sig := ⟨h.val + 9, by have := h.isLt; show _ < 13; omega⟩
noncomputable abbrev arrS (h : Fin 2) : DmaSem sig := ⟨h.val + 11, by have := h.isLt; show _ < 13; omega⟩

/-! ## The contents -/

/-- Block `b` of a device's argument, with the leading axis of length one it is loaded with. -/
noncomputable def block (X : S4096x1024.Idx → Elt F .bf16) (b : Fin 8) : Vec F S1x512x1024 .bf16 :=
  fun y => X ((rowsR b).emb (Shape.reshapeEquiv (s := S512x1024) (s' := S1x512x1024) (Shape.Squeezes.numel_eq squeezes_S1x512x1024_S512x1024).symm y))

/-- The row maxima of a device's argument block, packed: the row in block `i 0 / 4` whose number there is
    `128 (i 0 % 4) + i 1` has its maximum at `i`. -/
noncomputable def packed (X : S4096x1024.Idx → Elt F .bf16) : S32x128.Idx → Elt F .bf16 := fun i =>
  k0_pay2 (block X ⟨(i 0).val / 4, by have := (i 0).isLt; change (i 0).val < 32 at this; omega⟩)
    (fun a => match a with
      | ⟨0, _⟩ => ⟨(i 0).val % 4, Nat.mod_lt _ (by decide)⟩
      | ⟨1, _⟩ => i 1)

/-- What a slab reads once block `b` has been copied into it. -/
theorem slab_read (X : S4096x1024.Idx → Elt F .bf16) (b : Fin 8) (f : S8x512x1024.Idx → Elt F .bf16) :
    (stgM.access (slabR b)).read (Elt F) ((slabM b).view.write (Elt F) f ((rowsM b).view.read (Elt F) X) Finset.univ)
      = block X b := by
  funext y
  have h : S512x1024.numel = S1x512x1024.numel := Shape.Squeezes.numel_eq squeezes_S1x512x1024_S512x1024
  have := View.read_write_reshape (v := stgM.view.slice (slabR b)) h f ((rowsM b).view.read (Elt F) X) ((Shape.reshapeEquiv h).symm y)
  rw [Equiv.apply_symm_apply] at this
  refine this.trans ?_
  rw [Shape.reshapeEquiv_symm]
  rfl

/-- `packed` at a place of the four rows of block `b`. -/
theorem packed_at (X : S4096x1024.Idx → Elt F .bf16) (b : Fin 8) (i : S32x128.Idx) (z : S4x128.Idx)
    (h0 : (i 0).val = 4 * b.val + (z 0).val) (h1 : (i 1).val = (z 1).val) :
    packed X i = k0_pay2 (block X b) z := by
  have hz : (z 0).val < 4 := (z 0).isLt
  have e0 : (i 0).val / 4 = b.val := by omega
  have e1 : (i 0).val % 4 = (z 0).val := by omega
  have hb : ∀ (n : Nat) (hn : n < 8), n = b.val → block X ⟨n, hn⟩ = block X b := fun n hn e => congrArg (block X) (Fin.ext e)
  unfold packed
  rw [hb _ _ e0]
  refine congrArg (k0_pay2 (block X b)) (funext fun a => ?_)
  match a with
  | ⟨0, _⟩ => exact Fin.ext e1
  | ⟨1, _⟩ => exact Fin.ext h1

/-- A store into the four rows of block `b`, at a place there. -/
theorem access_write_emb (b : Fin 8) (f : S32x128.Idx → Elt F .bf16) (w : Vec F S4x128 .bf16) (z : S4x128.Idx) :
    (sndM.access (packR b)).write (Elt F) f w Finset.univ ((sndM.access (packR b)).emb z) = w z := by
  rw [View.write_emb_of_mem _ _ (Finset.mem_univ _)]
  rfl

/-- Storing the packed maxima of block `b` leaves its four rows as `packed` has them. -/
theorem pack_write (X : S4096x1024.Idx → Elt F .bf16) (b : Fin 8) (f : S32x128.Idx → Elt F .bf16) :
    ∀ i ∈ (sndM.access (packR b)).set,
      (sndM.access (packR b)).write (Elt F) f (k0_pay2 (block X b)) Finset.univ i = packed X i := by
  intro i hi
  obtain ⟨z, -, rfl⟩ := Finset.mem_map.mp hi
  refine (access_write_emb b f _ z).trans (packed_at X b _ z ?_ ?_).symm
  · show 4 * b.val + 1 * (z 0).val = _; omega
  · show 0 + 1 * (z 1).val = _; omega

/-- A half that arrives is that half of what the sender packed. -/
theorem half_write (P f : S32x128.Idx → Elt F .bf16) (h : Fin 2) :
    ∀ i ∈ (rcvH h).view.set,
      (rcvH h).view.write (Elt F) f ((sndH h).view.read (Elt F) P) Finset.univ i = P i := by
  intro i hi
  obtain ⟨z, -, rfl⟩ := Finset.mem_map.mp hi
  rw [View.write_emb_of_mem _ _ (Finset.mem_univ _)]
  rfl

/-! ## A buffer by its pieces -/

theorem rows_set (b : Fin 8) : (rowsM b).view.set = (rowsR b).set := View.set_slice_whole _ _
theorem slab_set (b : Fin 8) : (slabM b).view.set = (slabR b).set :=
  (View.set_reshape (v := stgM.view.slice (slabR b)) _).trans (View.set_slice_whole _ _)
theorem pack_set (b : Fin 8) : (sndM.access (packR b)).set = (packR b).set := View.set_slice_whole _ _
theorem sndH_set (h : Fin 2) : (sndH h).view.set = (halfR h).set := View.set_slice_whole _ _
theorem rcvH_set (h : Fin 2) : (rcvH h).view.set = (halfR h).set := View.set_slice_whole _ _

theorem rows_disjoint (b b' : Fin 8) (h : b ≠ b') : Disjoint (rowsR b).set (rowsR b').set :=
  Ring.lead_disjoint (s := S4096x1024) (0 : Fin 2) 512 (fun b : Fin 8 => ![512 * b.val, 0]) S512x1024.size inbRows
    (fun _ => rfl) rfl b b' h
theorem rows_cover : Finset.univ.biUnion (fun b : Fin 8 => (rowsR b).set) = Finset.univ :=
  Ring.lead_cover (s := S4096x1024) (0 : Fin 2) 512 (fun b : Fin 8 => ![512 * b.val, 0]) S512x1024.size inbRows
    (fun _ => rfl) (by decide) rfl (by decide) rfl

theorem slab_disjoint (b b' : Fin 8) (h : b ≠ b') : Disjoint (slabR b).set (slabR b').set :=
  Ring.lead_disjoint (s := S8x512x1024) (0 : Fin 3) 1 (fun b : Fin 8 => ![b.val, 0, 0]) S1x512x1024.size inbSlab
    (fun _ => (Nat.one_mul _).symm) rfl b b' h
theorem slab_cover : Finset.univ.biUnion (fun b : Fin 8 => (slabR b).set) = Finset.univ :=
  Ring.lead_cover (s := S8x512x1024) (0 : Fin 3) 1 (fun b : Fin 8 => ![b.val, 0, 0]) S1x512x1024.size inbSlab
    (fun _ => (Nat.one_mul _).symm) (by decide) rfl (by decide) rfl

theorem pack_disjoint (b b' : Fin 8) (h : b ≠ b') : Disjoint (packR b).set (packR b').set :=
  Ring.lead_disjoint (s := S32x128) (0 : Fin 2) 4 (fun b : Fin 8 => ![4 * b.val, 0]) S4x128.size inbPack
    (fun _ => rfl) rfl b b' h
theorem pack_cover : Finset.univ.biUnion (fun b : Fin 8 => (packR b).set) = Finset.univ :=
  Ring.lead_cover (s := S32x128) (0 : Fin 2) 4 (fun b : Fin 8 => ![4 * b.val, 0]) S4x128.size inbPack
    (fun _ => rfl) (by decide) rfl (by decide) rfl

theorem half_disjoint (h h' : Fin 2) (hh : h ≠ h') : Disjoint (halfR h).set (halfR h').set :=
  Ring.lead_disjoint (s := S32x128) (0 : Fin 2) 16 (fun b : Fin 2 => ![16 * b.val, 0]) S16x128.size inbHalf
    (fun _ => rfl) rfl h h' hh
theorem half_cover : Finset.univ.biUnion (fun h : Fin 2 => (halfR h).set) = Finset.univ :=
  Ring.lead_cover (s := S32x128) (0 : Fin 2) 16 (fun b : Fin 2 => ![16 * b.val, 0]) S16x128.size inbHalf
    (fun _ => rfl) (by decide) rfl (by decide) rfl

/-- The blocks whose maxima fill half `h`. -/
noncomputable def blocksOf (h : Fin 2) : Finset (Fin 8) := Finset.univ.filter fun b => b.val / 4 = h.val

/-- A half is filled by its four pieces of four rows. -/
theorem half_packs (h : Fin 2) : (blocksOf h).biUnion (fun b => (packR b).set) = (halfR h).set := by
  ext i
  simp only [Finset.mem_biUnion, blocksOf, Finset.mem_filter, Finset.mem_univ, true_and]
  have hi : (i (0 : Fin 2)).val < 32 := (i (0 : Fin 2)).isLt
  have hj : (i (1 : Fin 2)).val < 128 := (i (1 : Fin 2)).isLt
  constructor
  · rintro ⟨b, hb, hm⟩
    have h0 : 4 * b.val ≤ (i (0 : Fin 2)).val ∧ (i (0 : Fin 2)).val < 4 * b.val + 4 := (Rect.mem_set_unit.mp hm) (0 : Fin 2)
    refine Rect.mem_set_unit.mpr fun a => ?_
    match a with
    | ⟨0, _⟩ =>
      show 16 * h.val ≤ (i (0 : Fin 2)).val ∧ (i (0 : Fin 2)).val < 16 * h.val + 16
      omega
    | ⟨1, _⟩ =>
      show 0 ≤ (i (1 : Fin 2)).val ∧ (i (1 : Fin 2)).val < 0 + 128
      omega
  · intro hm
    have h0 : 16 * h.val ≤ (i (0 : Fin 2)).val ∧ (i (0 : Fin 2)).val < 16 * h.val + 16 := (Rect.mem_set_unit.mp hm) (0 : Fin 2)
    refine ⟨⟨(i (0 : Fin 2)).val / 4, by omega⟩, by show (i (0 : Fin 2)).val / 4 / 4 = _; omega, Rect.mem_set_unit.mpr fun a => ?_⟩
    match a with
    | ⟨0, _⟩ =>
      show 4 * ((i (0 : Fin 2)).val / 4) ≤ (i (0 : Fin 2)).val ∧ (i (0 : Fin 2)).val < 4 * ((i (0 : Fin 2)).val / 4) + 4
      omega
    | ⟨1, _⟩ =>
      show 0 ≤ (i (1 : Fin 2)).val ∧ (i (1 : Fin 2)).val < 0 + 128
      omega

end RowMax
-- ==== Proof.Steps.lean ====
/-
  The kernel's body as a sequence of steps: the signal to the other device, eight copies into the staging scratch,
  eight blocks of work, the two halves sent and awaited, the two results joined.
-/
module

public import proofs.«01_k».proof.Proof.Views

@[expose] public section

noncomputable section

namespace RowMax

open Cert.KernelIdeal Cert.KernelIdeal.Gen
open Idealize.ShloMosaic Idealize.ShloMosaic.TcCoe
open Idealize.SL Idealize.SL.RA Idealize.SL.BI Idealize.SL.Sem

variable {F : FTy → Type} [FloatOps F]

/-- A program of one device's kernel. -/
noncomputable abbrev Body (F : FTy → Type) : Type 1 := Prog (TpuEff nD τ sig (Elt F) Λ₀ .tc) PUnit

theorem rows_words (b : Fin 8) : (rowsM b).view.WordExact :=
  (Memref.isWhole_whole main_arg0).wordExact_slice rfl _ (by
    match b with
    | ⟨0, _⟩ => exact wordsbf16_S4096x1024_S512x1024_0_0
    | ⟨1, _⟩ => exact wordsbf16_S4096x1024_S512x1024_512_0
    | ⟨2, _⟩ => exact wordsbf16_S4096x1024_S512x1024_1024_0
    | ⟨3, _⟩ => exact wordsbf16_S4096x1024_S512x1024_1536_0
    | ⟨4, _⟩ => exact wordsbf16_S4096x1024_S512x1024_2048_0
    | ⟨5, _⟩ => exact wordsbf16_S4096x1024_S512x1024_2560_0
    | ⟨6, _⟩ => exact wordsbf16_S4096x1024_S512x1024_3072_0
    | ⟨7, _⟩ => exact wordsbf16_S4096x1024_S512x1024_3584_0)

theorem slab_words (b : Fin 8) : (slabM b).view.WordExact :=
  ((Memref.isWhole_whole cc0_scratch0).wordExact_slice rfl _ (by
    match b with
    | ⟨0, _⟩ => exact wordsbf16_S8x512x1024_S1x512x1024_0_0_0
    | ⟨1, _⟩ => exact wordsbf16_S8x512x1024_S1x512x1024_1_0_0
    | ⟨2, _⟩ => exact wordsbf16_S8x512x1024_S1x512x1024_2_0_0
    | ⟨3, _⟩ => exact wordsbf16_S8x512x1024_S1x512x1024_3_0_0
    | ⟨4, _⟩ => exact wordsbf16_S8x512x1024_S1x512x1024_4_0_0
    | ⟨5, _⟩ => exact wordsbf16_S8x512x1024_S1x512x1024_5_0_0
    | ⟨6, _⟩ => exact wordsbf16_S8x512x1024_S1x512x1024_6_0_0
    | ⟨7, _⟩ => exact wordsbf16_S8x512x1024_S1x512x1024_7_0_0)).reshape _ _

theorem half_words (m : Memref sig .tc .vmem S32x128 .bf16) (hm : m.IsWhole) (h : Fin 2) :
    (m.slice (halfR h) (fun _ => rfl)).view.WordExact :=
  hm.wordExact_slice rfl _ (by
    match h with
    | ⟨0, _⟩ => exact wordsbf16_S32x128_S16x128_0_0
    | ⟨1, _⟩ => exact wordsbf16_S32x128_S16x128_16_0)

theorem pack_stores (b : Fin 8) : (sndM.access (packR b)).Stores Finset.univ :=
  View.stores_vmem h_S4x128 ((Memref.isWhole_whole cc0_scratch1).storeExact_slice rfl _ (by
    match b with
    | ⟨0, _⟩ => exact packedbf16_S32x128_S4x128_0_0
    | ⟨1, _⟩ => exact packedbf16_S32x128_S4x128_4_0
    | ⟨2, _⟩ => exact packedbf16_S32x128_S4x128_8_0
    | ⟨3, _⟩ => exact packedbf16_S32x128_S4x128_12_0
    | ⟨4, _⟩ => exact packedbf16_S32x128_S4x128_16_0
    | ⟨5, _⟩ => exact packedbf16_S32x128_S4x128_20_0
    | ⟨6, _⟩ => exact packedbf16_S32x128_S4x128_24_0
    | ⟨7, _⟩ => exact packedbf16_S32x128_S4x128_28_0)) (fun _ => rfl)

/-- Copy block `b` of the argument into its slab. -/
noncomputable def copyStep (b : Fin 8) : Body F :=
  .op (.enqueueDma (rowsM b) (.here (slabM b)) (.dma (inS b)) (rows_words b) (slab_words b) ⟨Or.inl rfl, trivial⟩) fun _ => .ret ⟨⟩

/-- Await block `b`, read it, and store its packed row maxima. -/
noncomputable def workStep (b : Fin 8) : Body F :=
  .op (.waitDma2 (inS b) (rowsM b) (slabM b) (rows_words b) (slab_words b)) fun _ =>
  .op (.load stgM (slabR b).toLoadRect (View.loadsAt_vmem h_S1x512x1024)) fun v =>
  .op (.load sndM (packR b).toLoadRect (View.loadsAt_vmem h_S4x128)) fun _ =>
  .op (.store sndM (packR b) (k0_pay2 v) Finset.univ (pack_stores b) (.inl rfl)) fun _ => .ret ⟨⟩

/-- Send half `h` of the packed maxima to device `d`. -/
noncomputable def sendStep (d : Dev nD) (h : Fin 2) : Body F :=
  .op (.enqueueDma (sndH h) (.remote (Dev.tc d) (rcvH h) (.dma (outS h))) (.dma (arrS h))
    (half_words sndM (Memref.isWhole_whole _) h) (half_words rcvM (Memref.isWhole_whole _) h) ⟨⟨rfl, Or.inl rfl⟩, trivial⟩) fun _ => .ret ⟨⟩

/-- Await the departure of half `h`. -/
noncomputable def leftStep (h : Fin 2) : Body F :=
  .op (.waitDma2 (outS h) (rcvH h) (sndH h)
    (half_words rcvM (Memref.isWhole_whole _) h) (half_words sndM (Memref.isWhole_whole _) h)) fun _ => .ret ⟨⟩

/-- Await the arrival of half `h`. -/
noncomputable def arrStep (h : Fin 2) : Body F :=
  .op (.waitDma2 (arrS h) (sndH h) (rcvH h)
    (half_words sndM (Memref.isWhole_whole _) h) (half_words rcvM (Memref.isWhole_whole _) h)) fun _ => .ret ⟨⟩

noncomputable abbrev allR : Rect S32x128 := Rect.unit (s := S32x128) ![0, 0] S32x128.size inb_S32x128_S32x128_0_0

/-- Join the own and the received maxima and store the result. -/
noncomputable def joinStep : Body F :=
  .op (.load sndM allR.toLoadRect (View.loadsAt_vmem h_S32x128)) fun v =>
  .op (.load rcvM allR.toLoadRect (View.loadsAt_vmem h_S32x128)) fun w =>
  .op (.load outM allR.toLoadRect (View.loadsAt_vmem h_S32x128)) fun _ =>
  .op (.store outM allR (k0_pay1 v w) Finset.univ
    (View.stores_vmem h_S32x128 ((Memref.isWhole_whole cc0_stg0_0).storeExact_slice rfl _ packedbf16_S32x128_S32x128_0_0) (fun _ => rfl)) (.inl rfl)) fun _ => .ret ⟨⟩

/-- One step for each block of a list, in order. -/
noncomputable def each (f : Fin 8 → Body F) : List (Fin 8) → Body F
  | [] => .ret ⟨⟩
  | b :: bs => (f b).bind fun _ => each f bs

/-- The body's steps, the devices signalled and sent to known. -/
noncomputable def steps (p q r : Dev nD) : Body F :=
  (semSignalWord p barrier0 1#32).bind fun _ =>
  (each copyStep [0, 1, 2, 3, 4, 5, 6, 7]).bind fun _ =>
  (each workStep [0, 1, 2, 3]).bind fun _ =>
  (semWaitWord barrier0 1#32).bind fun _ =>
  (sendStep q 0).bind fun _ =>
  (each workStep [4, 5, 6, 7]).bind fun _ =>
  (sendStep r 1).bind fun _ =>
  (leftStep 0).bind fun _ => (arrStep 0).bind fun _ =>
  (leftStep 1).bind fun _ => (arrStep 1).bind fun _ => joinStep

set_option maxRecDepth 65536 in
theorem body_steps : cc0_body (F := F) argM (Memref.isWhole_whole _) outM (Memref.isWhole_whole _) stgM (Memref.isWhole_whole _)
    sndM (Memref.isWhole_whole _) rcvM (Memref.isWhole_whole _) cc0_scratch3 cc0_scratch4 cc0_scratch5
    = (Prog.lift .deviceId).bind fun d => steps ⟨k0_dev1 d, k0_dev1_lt d⟩ ⟨k0_dev2 d, k0_dev2_lt d⟩ ⟨k0_dev3 d, k0_dev3_lt d⟩ := rfl

/-- The kernel's body on its buffers is the sequence of its steps, every one towards the other device of the mesh row. -/
theorem body_eq : cc0_body (F := F) argM (Memref.isWhole_whole _) outM (Memref.isWhole_whole _) stgM (Memref.isWhole_whole _)
    sndM (Memref.isWhole_whole _) rcvM (Memref.isWhole_whole _) cc0_scratch3 cc0_scratch4 cc0_scratch5
    = (Prog.lift .deviceId).bind fun d => steps (peer d) (peer d) (peer d) := by
  rw [body_steps]
  refine congrArg _ (funext fun d => ?_)
  rw [dev1_peer, dev2_peer, dev3_peer]

end RowMax
-- ==== Proof.Protocol.lean ====
/-
  The protocol of the row-maximum kernel: its semaphores as cells of one round each, and what each round hands over.

  A device has a barrier cell, eight landing cells (one for each block copied into the staging scratch), two departure
  cells and two arrival cells (one of each for each half of the packed maxima). The barrier's unit, paid by the other
  device of the mesh row, brings the other device's receive scratch; a landing brings the slab as copied and the rows of
  the argument back; a departure brings the half of the send scratch back; an arrival brings the half of the receive
  scratch at what the other device packed.
-/
module

public import proofs.«01_k».proof.Proof.Steps

@[expose] public section

noncomputable section

namespace RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's copy of the rounds, and the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The argument blocks, device by device. -/
abbrev Args (F : FTy → Type) : Type := Dev nD → S4096x1024.Idx → Elt F .bf16

variable (X : Args F)

/-! ## Cells -/

/-- The semaphore `s` of device `c`. -/
noncomputable abbrev cell (c : Dev nD) (s : SemLoc sig) : GSem nD τ sig := ((c : Thread nD τ), s)
noncomputable abbrev barS : SemLoc sig := .reg barrier0

/-- The kernel's own semaphores: landings, departures, arrivals. -/
abbrev Own : Type := Fin 8 ⊕ (Fin 2 ⊕ Fin 2)
noncomputable abbrev own : Own → SemLoc sig
  | .inl b => .dma (inS b)
  | .inr (.inl h) => .dma (outS h)
  | .inr (.inr h) => .dma (arrS h)

/-- The units of one block's landing, and of one half's departure or arrival. -/
noncomputable abbrev nIn : ℕ := (slabM 0).view.dmaCredit
noncomputable abbrev nHalf : ℕ := (rcvH 0).view.dmaCredit
theorem nIn_pos : 0 < nIn := View.dmaCredit_pos _ (by decide)
theorem nHalf_pos : 0 < nHalf := View.dmaCredit_pos _ (by decide)

/-! ## Points-tos -/

/-- Block `b` of device `c`'s argument. -/
noncomputable abbrev rowsP (c : Dev nD) (b : Fin 8) : sProp 𝕄 :=
  (rowsM b).view.loc (c : Thread nD τ) ↦[(rowsM b).view.set]{fullShare} X c
/-- Slab `b` of device `c`'s staging scratch, at `f`. -/
noncomputable abbrev slabP (c : Dev nD) (b : Fin 8) (f : S8x512x1024.Idx → Elt F .bf16) : sProp 𝕄 :=
  (slabM b).view.loc (c : Thread nD τ) ↦[(slabM b).view.set]{fullShare} f
/-- Half `h` of device `c`'s send scratch, at `f`; of its receive scratch. -/
noncomputable abbrev sndP (c : Dev nD) (h : Fin 2) (f : S32x128.Idx → Elt F .bf16) : sProp 𝕄 :=
  (sndH h).view.loc (c : Thread nD τ) ↦[(sndH h).view.set]{fullShare} f
noncomputable abbrev rcvP (c : Dev nD) (h : Fin 2) (f : S32x128.Idx → Elt F .bf16) : sProp 𝕄 :=
  (rcvH h).view.loc (c : Thread nD τ) ↦[(rcvH h).view.set]{fullShare} f
/-- The four rows block `b` fills of device `c`'s send scratch, at `f`. -/
noncomputable abbrev packP (c : Dev nD) (b : Fin 8) (f : S32x128.Idx → Elt F .bf16) : sProp 𝕄 :=
  (sndM.access (packR b)).loc (c : Thread nD τ) ↦[(sndM.access (packR b)).set]{fullShare} f

/-! ## The schedule -/

/-- The barrier's unit brings the other device's receive scratch, and that its arrival cells are at their round. -/
noncomputable def barPay (c : Dev nD) : sProp 𝕄 :=
  iprop(((∃ f, rcvP (peer c) 0 f) ∗ ∃ f, rcvP (peer c) 1 f)
    ∗ reached ER (cell (peer c) (.dma (arrS 0))) 0 ∗ reached ER (cell (peer c) (.dma (arrS 1))) 0)
/-- A landing brings the slab as copied and the rows read. -/
noncomputable def landPay (c : Dev nD) (b : Fin 8) : sProp 𝕄 :=
  iprop(∃ f, slabP c b ((slabM b).view.write (Elt F) f ((rowsM b).view.read (Elt F) (X c)) Finset.univ) ∗ rowsP X c b)

/-- What the one round of a device's cell hands over. -/
noncomputable def pay (c : Dev nD) : SemLoc sig → sProp 𝕄
  | .reg _ => barPay c
  | .dma q =>
    if h : q.val - 1 < 8 then landPay X c ⟨q.val - 1, h⟩
    else if h : q.val - 9 < 2 then sndP c ⟨q.val - 9, h⟩ (packed (X c))
    else if h : q.val - 11 < 2 then rcvP c ⟨q.val - 11, h⟩ (packed (X (peer c)))
    else iprop(emp)

/-- The units of a cell's round. -/
noncomputable def units : SemLoc sig → ℕ
  | .reg _ => 1
  | .dma q => if q.val - 1 < 8 then nIn else nHalf

theorem units_pos (s : SemLoc sig) : 0 < units s := by
  cases s with
  | reg _ => exact Nat.one_pos
  | dma q =>
    show 0 < if q.val - 1 < 8 then nIn else nHalf
    by_cases h : q.val - 1 < 8
    · rw [if_pos h]; exact nIn_pos
    · rw [if_neg h]; exact nHalf_pos

/-- The schedule: one round with one duty on every cell of every device. -/
noncomputable def sched : Rounds.Schedule (GSem nD τ sig) Unit 𝕄 where
  duties g r := if r = 0 ∧ g.1.2 = .tc ∧ g.2 ≠ .dma 0 then {()} else ∅
  unitless _ := False
  amount g _ _ := units g.2
  payload g _ _ := pay X g.1.1 g.2
  amount_pos g _ _ _ := units_pos g.2

instance barPay_storable (c : Dev nD) : BI.Storable (upEmb : UEmb _ 𝕄) (barPay (F := F) c) := by unfold barPay; infer_instance
instance landPay_storable (c : Dev nD) (b : Fin 8) : BI.Storable (upEmb : UEmb _ 𝕄) (landPay X c b) := by unfold landPay; infer_instance

instance pay_storable (c : Dev nD) (s : SemLoc sig) : BI.Storable (upEmb : UEmb _ 𝕄) (pay X c s) := by
  cases s with
  | reg _ => exact barPay_storable c
  | dma q => unfold pay; (repeat' split) <;> infer_instance

instance sched_storable (g : GSem nD τ sig) (r : ℕ) (d : Unit) : BI.Storable (upEmb : UEmb _ 𝕄) ((sched X).payload g r d) :=
  pay_storable X g.1.1 g.2

theorem sched_duties (c : Dev nD) {s : SemLoc sig} (hs : s ≠ .dma 0) : () ∈ (sched X).duties (cell c s) 0 := by
  dsimp only [sched]; rw [if_pos ⟨rfl, rfl, hs⟩]; exact Finset.mem_singleton_self _
theorem sched_later (g : GSem nD τ sig) : ∀ r, 0 + 1 ≤ r → (sched X).duties g r = ∅ :=
  fun r hr => by dsimp only [sched]; exact if_neg fun h => by omega
theorem sched_expect (c : Dev nD) {s : SemLoc sig} (hs : s ≠ .dma 0) : (sched X).expect (cell c s) 0 = units s := by
  unfold Schedule.expect Schedule.amountOf
  dsimp only [sched]; rw [if_pos ⟨rfl, rfl, hs⟩, Finset.sum_singleton]
theorem sched_rest (c : Dev nD) {s : SemLoc sig} (hs : s ≠ .dma 0) :
    bigSep ((sched X).duties (cell c s) 0 \ ∅) (fun u => (sched X).payload (cell c s) 0 u) = pay X c s := by
  rw [Finset.sdiff_empty]; dsimp only [sched]; rw [if_pos ⟨rfl, rfl, hs⟩, bigSep_singleton]

theorem pay_in (c : Dev nD) (b : Fin 8) : pay X c (.dma (inS b)) = landPay X c b := by
  have h : (inS b).val - 1 < 8 := b.isLt
  show (if h : (inS b).val - 1 < 8 then landPay X c ⟨(inS b).val - 1, h⟩ else _) = _
  rw [dif_pos h]; rfl
theorem pay_out (c : Dev nD) (h : Fin 2) : pay X c (.dma (outS h)) = sndP c h (packed (X c)) := by
  match h with
  | ⟨0, _⟩ => rfl
  | ⟨1, _⟩ => rfl
theorem pay_arr (c : Dev nD) (h : Fin 2) : pay X c (.dma (arrS h)) = rcvP c h (packed (X (peer c))) := by
  match h with
  | ⟨0, _⟩ => rfl
  | ⟨1, _⟩ => rfl

theorem units_in (b : Fin 8) : units (.dma (inS b)) = nIn := if_pos (show (inS b).val - 1 < 8 from b.isLt)
theorem units_out (h : Fin 2) : units (.dma (outS h)) = nHalf := by
  match h with
  | ⟨0, _⟩ => rfl
  | ⟨1, _⟩ => rfl
theorem units_arr (h : Fin 2) : units (.dma (arrS h)) = nHalf := by
  match h with
  | ⟨0, _⟩ => rfl
  | ⟨1, _⟩ => rfl
theorem in_ne (b : Fin 8) : (.dma (inS b) : SemLoc sig) ≠ .dma 0 := by revert b; decide
theorem out_ne (h : Fin 2) : (.dma (outS h) : SemLoc sig) ≠ .dma 0 := by revert h; decide
theorem arr_ne (h : Fin 2) : (.dma (arrS h) : SemLoc sig) ≠ .dma 0 := by revert h; decide
theorem bar_ne : (barS : SemLoc sig) ≠ .dma 0 := fun h => by cases h
theorem slab_amount (b : Fin 8) (s : DmaSem sig) : (slabM b).view.amount (.dma s) = nIn := rfl
theorem rcv_amount (h : Fin 2) (s : DmaSem sig) : (rcvH h).view.amount (.dma s) = nHalf := rfl
theorem snd_amount (h : Fin 2) (s : DmaSem sig) : (sndH h).view.amount (.dma s) = nHalf := rfl

/-! ## What each core owes at launch, and the levels -/

/-- The credit of half `h` owed to the other device's arrival cell. -/
noncomputable abbrev dueArr (c : Dev nD) (h : Fin 2) : CellTallies nD τ sig Unit := tallyAt (cell (peer c) (.dma (arrS h))) () nHalf
/-- At launch a core owes the other device both halves and the barrier's unit. -/
noncomputable def O₀ (c : Dev nD) : CellTallies nD τ sig Unit := (dueArr c 1 + dueArr c 0) + tallyAt (cell (peer c) barS) () 1

/-- Every cell of a TensorCore is levelled: -/
noncomputable def L (g : GSem nD τ sig) : Finset Unit := if g.1.2 = .tc then {()} else ∅
/-- arrivals highest, barriers next, everything else lowest. -/
noncomputable def lv (g : GSem nD τ sig) (_ : Unit) : ℕ := match g.2 with
  | .reg _ => 1
  | .dma q => if 11 ≤ q.val then 2 else 0

theorem L_of_ne (g : GSem nD τ sig) (h : g.1.2 ≠ .tc) : L g = ∅ := if_neg h
theorem L_tc (c : Dev nD) (s : SemLoc sig) : L (cell c s) = {()} := if_pos rfl
theorem mem_L (c : Dev nD) (s : SemLoc sig) (u : Unit) : u ∈ L (cell c s) := by rw [L_tc]; exact Finset.mem_singleton_self _
theorem lv_arr (c : Dev nD) (h : Fin 2) (u : Unit) : lv (cell c (.dma (arrS h))) u = 2 := by
  match h with
  | ⟨0, _⟩ => rfl
  | ⟨1, _⟩ => rfl

/-- A tally that is at most the two halves' credit to the other device. -/
def Halves (c : Dev nD) (O : CellTallies nD τ sig Unit) : Prop :=
  ∀ g u, 0 < O g u → ∃ h : Fin 2, g = cell (peer c) (.dma (arrS h))

theorem halves_one (c : Dev nD) (h : Fin 2) : Halves c (dueArr c h) := fun g u hg => by
  rw [tallyAt_apply] at hg
  by_cases e : g = cell (peer c) (.dma (arrS h)) ∧ u = ()
  · exact ⟨h, e.1⟩
  · rw [if_neg e] at hg; exact absurd hg (Nat.lt_irrefl 0)
theorem halves_both (c : Dev nD) : Halves c (dueArr c 1 + dueArr c 0) := fun g u hg => by
  rw [Pi.add_apply, Finsupp.add_apply] at hg
  rcases Nat.add_pos_iff_pos_or_pos.mp hg with hg | hg
  exacts [halves_one c 1 g u hg, halves_one c 0 g u hg]

/-- A core may wait on its barrier or any lower cell while it owes halves only. -/
theorem may_wait (c : Dev nD) (s : SemLoc sig) (hs : ∀ u, lv (cell c s) u ≤ 1) (O : CellTallies nD τ sig Unit) (hO : Halves c O) :
    (levAts L lv : sProp 𝕄) ⊢ MayWait (c : Thread nD τ) s () O :=
  MayOwe.of_cut (L := L) (lev := lv) 1 (fun p hp => by rw [Finset.mem_singleton.mp hp]; exact mem_L c s _)
    (fun g u hg => by obtain ⟨h, rfl⟩ := hO g u hg; exact mem_L _ _ u)
    (fun p hp => by rw [Finset.mem_singleton.mp hp]; exact hs _)
    (fun g u hg => by obtain ⟨h, rfl⟩ := hO g u hg; rw [lv_arr]; decide)

theorem O₀_pos {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨k, rfl⟩ := halves_both c g u h
    exact ⟨mem_L _ _ u, by rw [lv_arr]; decide⟩
  · rw [tallyAt_apply] at h
    split at h
    · next hg => rw [hg.1]; exact ⟨mem_L _ _ u, Nat.one_pos⟩
    · exact absurd h (Nat.lt_irrefl 0)

/-! ## The protocol's ghost state -/

/-- The barrier cells of all devices; the kernel's own cells of all devices. -/
noncomputable def barEmb : Dev nD ↪ GSem nD τ sig := ⟨fun c => cell c barS, fun _ _ h => congrArg (fun g : GSem nD τ sig => g.1.1) h⟩
theorem own_inj : Function.Injective own := by decide
noncomputable def ownEmb : Dev nD × Own ↪ GSem nD τ sig :=
  ⟨fun ck => cell ck.1 (own ck.2), fun _ _ h =>
    Prod.ext (congrArg (fun g : GSem nD τ sig => g.1.1) h) (own_inj (congrArg Prod.snd h))⟩
noncomputable abbrev barCells : Finset (GSem nD τ sig) := Finset.univ.map barEmb
noncomputable abbrev ownCells : Finset (GSem nD τ sig) := Finset.univ.map ownEmb

theorem bar_mem (c : Dev nD) : cell c barS ∈ barCells := Finset.mem_map_of_mem barEmb (Finset.mem_univ c)
theorem own_mem (c : Dev nD) (k : Own) : cell c (own k) ∈ ownCells := Finset.mem_map_of_mem ownEmb (Finset.mem_univ (c, k))

/-- What every device may consult: every cell's invariant, and that every barrier cell is at its round. -/
noncomputable def records (κ : GSem nD τ sig → ℕ) : sProp 𝕄 :=
  iprop((bigSep (barCells ∪ ownCells) fun g => cellInv ER (sched X) (κ g) g) ∗ bigSep barCells fun g => reached ER g 0)

instance records_persistent (κ : GSem nD τ sig → ℕ) : BI.Persistent (records X κ) := by unfold records; infer_instance

theorem inv_bar (κ : GSem nD τ sig → ℕ) (c : Dev nD) : records X κ ⊢ cellInv ER (sched X) (κ (cell c barS)) (cell c barS) :=
  sep_elim_left.trans (bigSep_elim (Finset.mem_union_left _ (bar_mem c)))
theorem inv_own (κ : GSem nD τ sig → ℕ) (c : Dev nD) (k : Own) :
    records X κ ⊢ cellInv ER (sched X) (κ (cell c (own k))) (cell c (own k)) :=
  sep_elim_left.trans (bigSep_elim (Finset.mem_union_right _ (own_mem c k)))
theorem bar_reached (κ : GSem nD τ sig → ℕ) (c : Dev nD) : records X κ ⊢ reached ER (cell c barS) 0 :=
  sep_elim_right.trans (bigSep_elim (bar_mem c))

/-- The tokens of the duties device `c` pays: the other device's barrier and arrivals, its own landings and departures. -/
noncomputable def tokens (c : Dev nD) : sProp 𝕄 :=
  iprop(dutyTok ER (cell (peer c) barS) 0 () ∗ (bigSep Finset.univ fun b => dutyTok ER (cell c (.dma (inS b))) 0 ())
    ∗ (bigSep Finset.univ fun h => dutyTok ER (cell c (.dma (outS h))) 0 ())
    ∗ bigSep Finset.univ fun h => dutyTok ER (cell (peer c) (.dma (arrS h))) 0 ())

/-- The credit tokens device `c` waits with. -/
noncomputable def credits (c : Dev nD) : sProp 𝕄 :=
  iprop(cred (tallyAt (cell c barS) () 1) ∗ bigSep Finset.univ fun h => cred (tallyAt (cell c (.dma (arrS h))) () nHalf))

/-- What device `c` carries from launch: the records, its place at its barrier cell, the rights to open its own cells, the
    tokens. -/
noncomputable def ghost (κ : GSem nD τ sig → ℕ) (c : Dev nD) : sProp 𝕄 :=
  iprop(records X κ ∗ atPos ER (cell c barS) 0 ∅ 0 ∗ (bigSep Finset.univ fun k : Own => openTok ER (cell c (own k))) ∗ tokens c)

/-- The same once its own cells are open. -/
noncomputable def opened (κ : GSem nD τ sig → ℕ) (c : Dev nD) : sProp 𝕄 :=
  iprop(records X κ ∗ atPos ER (cell c barS) 0 ∅ 0
    ∗ (bigSep Finset.univ fun k : Own => iprop(atPos ER (cell c (own k)) 0 ∅ 0 ∗ reached ER (cell c (own k)) 0)) ∗ tokens c)

/-- A cell past its round gives its counter back at zero. -/
theorem close_cell (κ : ℕ) (g : GSem nD τ sig) :
    iprop(cellInv ER (sched X) κ g ∗ atPos ER g (0 + 1) ∅ 0) ⊢ (|={Set.univ}=> semVal g 0 : sProp 𝕄) :=
  Rounds.cell_close ER (sched X) (Set.mem_univ κ) id (sched_later X g)

abbrev 𝒱₀ : Variants := Variants.none

end RowMax
-- ==== Proof.BodyRun.lean ====
/-
  The kernel's body, step by step: from the launch's ghost state and the buffers to the result.
-/
module

public import proofs.«01_k».proof.Proof.Protocol

@[expose] public section

noncomputable section

namespace RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (κ : GSem nD τ sig → ℕ) (c : Dev nD)

/-- Device `c` runs `p` to `Q`. -/
noncomputable abbrev Runs (p : Body F) (Q : PUnit → sProp 𝕄) : sProp 𝕄 :=
  wp frame (wpE (defs₀ (F := F)) 𝒱₀ c none) Set.univ p Q

/-- A program run after another. -/
theorem runs_bind (p : Body F) (k : PUnit → Body F) (Q : PUnit → sProp 𝕄) :
    Runs c (p.bind k) Q = Runs c p (fun a => Runs c (k a) Q) := wp_bind _ _ _ p k Q

/-- What a core owes, whatever waits it has recorded. -/
noncomputable abbrev due (O : CellTallies nD τ sig Unit) : sProp 𝕄 := iprop(∃ W, owes (c : Thread nD τ) O W)

theorem lv_in (b : Fin 8) (u : Unit) : lv (cell c (.dma (inS b))) u ≤ 1 := by
  show (if 11 ≤ b.val + 1 then 2 else 0) ≤ 1
  rw [if_neg (by have := b.isLt; omega)]; exact Nat.zero_le 1

/-! ## The steps one by one -/

/-- One copy: the slab and the rows go into the transfer, the credit to await it comes back. -/
theorem copy_runs (b : Fin 8) (Q : PUnit → sProp 𝕄) :
    iprop(records X κ ∗ (rowsP X c b ∗ (∃ f, slabP c b f) ∗ dutyTok ER (cell c (.dma (inS b))) 0 () ∗ reached ER (cell c (.dma (inS b))) 0)
        ∗ (records X κ ∗ cred (tallyAt (cell c (.dma (inS b))) () nIn) -∗ Q ⟨⟩))
      ⊢ Runs c (copyStep b) Q := by
  unfold copyStep Runs
  iintro ⟨#HR, ⟨Hx, ⟨%f, Hs⟩, Ht, Hr⟩, Hk⟩
  iapply (Rounds.wp_copy_pointsTo 𝒱₀ ER (sched X) (c : Thread nD τ) none (src := rowsM b) (dst := slabM b) (sem := .dma (inS b))
      (q := fullShare) (fs := X c) (fd := f) (r := 0) (d := ()) (κ := κ (cell c (.dma (inS b))))
      (sched_duties X c (in_ne b)) () nIn (slab_amount b _) (units_in b)
      (by
        show _ ⊢ pay X c (.dma (inS b))
        rw [pay_in]; unfold landPay
        iintro ⟨Hs, Hx⟩; iexists f
        isplitl [Hs] <;> iassumption)) $$ [Hx Hs Ht Hr]
  · isplitr; · iapply (inv_own X κ c (.inl b)); iexact HR
    isplitl [Hx]; · iexact Hx
    isplitl [Hs]; · iexact Hs
    isplitl [Ht] <;> iassumption
  iintro Hc
  rw [wp_ret]; imodintro
  iapply Hk
  isplitr; · iexact HR
  iexact Hc

/-- One block of work: the landing awaited, its packed maxima stored. -/
theorem work_runs (O : CellTallies nD τ sig Unit) (hO : Halves c O) (b : Fin 8) (Q : PUnit → sProp 𝕄) :
    iprop((records X κ ∗ levAts L lv ∗ due c O)
        ∗ (cred (tallyAt (cell c (.dma (inS b))) () nIn) ∗ atPos ER (cell c (.dma (inS b))) 0 ∅ 0 ∗ (∃ f, packP c b f))
        ∗ ((records X κ ∗ levAts L lv ∗ due c O)
          ∗ (atPos ER (cell c (.dma (inS b))) (0 + 1) ∅ 0 ∗ rowsP X c b ∗ (∃ f, slabP c b f) ∗ packP c b (packed (X c))) -∗ Q ⟨⟩))
      ⊢ Runs c (workStep b) Q := by
  unfold workStep Runs
  iintro ⟨⟨#HR, #Hlev, ⟨%W, HO⟩⟩, ⟨Hc, Hat, ⟨%g, Hp⟩⟩, Hk⟩
  iapply (Rounds.wp_wait_rest_token 𝒱₀ ER (sched X) (c : Thread nD τ) none (κ := κ (cell c (.dma (inS b))))
      (wpE_waitDma2_eq (src := rowsM b) (dst := slabM b) 𝒱₀ (c : Thread nD τ) none Set.univ) (Set.mem_univ _) () (O := O) (W := W) (R := 0) (m := 0) (T := ∅)
      ((Nat.zero_add _).trans ((sched_expect X c (in_ne b)).trans (units_in b)).symm)) $$ [Hc HO Hat]
  · isplitr; · iapply (inv_own X κ c (.inl b)); iexact HR
    isplitl [Hc]; · iexact Hc
    isplitl [HO]; · iexact HO
    isplitr
    · iapply (may_wait c (.dma (inS b)) (lv_in c b) O hO); iexact Hlev
    iexact Hat
  iintro ⟨HO, Hat, -, Hpay⟩
  ihave Hl := (Entails.of_eq ((sched_rest X c (in_ne b)).trans (pay_in X c b))) $$ Hpay
  unfold landPay
  icases Hl with ⟨%f, Hs, Hx⟩
  iapply (wp_load_rect 𝒱₀ (c : Thread nD τ) none Set.univ (m := stgM) (r := slabR b) (S := (slabM b).view.set)
    (by rw [slab_set]; exact (View.set_slice_whole _ _).subset)) $$ Hs
  iintro Hs
  rw [slab_read]
  iapply (wp_load_rect 𝒱₀ (c : Thread nD τ) none Set.univ (m := sndM) (r := packR b) (Finset.Subset.refl _)) $$ Hp
  iintro Hp
  iapply (wp_store 𝒱₀ (c : Thread nD τ) none Set.univ (m := sndM) (r := packR b) (Mk := Finset.univ) (S := (sndM.access (packR b)).set) (Finset.Subset.refl _)) $$ Hp
  iintro Hp
  ihave Hp := (Entails.of_eq (pointsTo_congr (pack_write (X c) b g))) $$ Hp
  rw [wp_ret]; imodintro
  iapply Hk
  isplitl [HO]
  · isplitr; · iexact HR
    isplitr; · iexact Hlev
    iexists _; iexact HO
  isplitl [Hat]; · iexact Hat
  isplitl [Hx]; · iexact Hx
  isplitl [Hs]; · iexists _; iexact Hs
  iexact Hp

/-- One half sent: it and the other device's half go into the transfer, which pays what was owed for it. -/
theorem send_runs (O : CellTallies nD τ sig Unit) (h : Fin 2) (Q : PUnit → sProp 𝕄) :
    iprop(records X κ ∗ due c (O + dueArr c h) ∗ sndP c h (packed (X c)) ∗ (∃ f, rcvP (peer c) h f)
        ∗ (dutyTok ER (cell c (.dma (outS h))) 0 () ∗ reached ER (cell c (.dma (outS h))) 0)
        ∗ (dutyTok ER (cell (peer c) (.dma (arrS h))) 0 () ∗ reached ER (cell (peer c) (.dma (arrS h))) 0)
        ∗ (cred (tallyAt (cell c (.dma (outS h))) () nHalf) ∗ due c O -∗ Q ⟨⟩))
      ⊢ Runs c (sendStep (peer c) h) Q := by
  unfold sendStep Runs
  iintro ⟨#HR, ⟨%W, HO⟩, Hs, ⟨%f, Hd⟩, ⟨Ht, Hr⟩, ⟨Ht', Hr'⟩, Hk⟩
  iapply (Rounds.wp_send_pointsTo 𝒱₀ ER (sched X) (c : Thread nD τ) none (c' := (peer c : Thread nD τ)) (src := sndH h) (dst := rcvH h)
      (sS := .dma (outS h)) (sem := .dma (arrS h)) (q := fullShare) (fs := packed (X c)) (κ₁ := κ (cell c (.dma (outS h))))
      (κ₂ := κ (cell (peer c) (.dma (arrS h)))) (r₁ := 0) (r₂ := 0) (d₁ := ()) (d₂ := ()) (fd := f)
      (sched_duties X c (out_ne h)) (sched_duties X (peer c) (arr_ne h)) () () nHalf (rcv_amount h _) (units_out h) (units_arr h)
      O rfl (W := W)
      (by show _ ⊢ pay X c (.dma (outS h)); rw [pay_out])
      (by
        show _ ⊢ pay X (peer c) (.dma (arrS h))
        rw [pay_arr, peer_peer]
        exact Entails.of_eq (pointsTo_congr (half_write (packed (X c)) f h)))) $$ [Hs Hd HO Ht Hr Ht' Hr']
  · isplitr; · iapply (inv_own X κ c (.inr (.inl h))); iexact HR
    isplitr; · iapply (inv_own X κ (peer c) (.inr (.inr h))); iexact HR
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  rw [wp_ret]; imodintro
  iapply Hk
  isplitl [Hc]; · iexact Hc
  iexists _; iexact HO

/-- The departure of a half awaited: the half comes back. -/
theorem left_runs (h : Fin 2) (Q : PUnit → sProp 𝕄) :
    iprop(records X κ ∗ due c 0 ∗ cred (tallyAt (cell c (.dma (outS h))) () nHalf) ∗ atPos ER (cell c (.dma (outS h))) 0 ∅ 0
        ∗ (due c 0 ∗ atPos ER (cell c (.dma (outS h))) (0 + 1) ∅ 0 ∗ sndP c h (packed (X c)) -∗ Q ⟨⟩))
      ⊢ Runs c (leftStep h) Q := by
  unfold leftStep Runs
  iintro ⟨#HR, ⟨%W, HO⟩, Hc, Hat, Hk⟩
  iapply (Rounds.wp_wait_rest_token 𝒱₀ ER (sched X) (c : Thread nD τ) none (κ := κ (cell c (.dma (outS h))))
      (wpE_waitDma2_eq (src := rcvH h) (dst := sndH h) 𝒱₀ (c : Thread nD τ) none Set.univ) (Set.mem_univ _) () (O := 0) (W := W) (R := 0) (m := 0) (T := ∅)
      ((Nat.zero_add _).trans ((sched_expect X c (out_ne h)).trans (units_out h)).symm)) $$ [Hc HO Hat]
  · isplitr; · iapply (inv_own X κ c (.inr (.inl h))); iexact HR
    isplitl [Hc]; · iexact Hc
    isplitl [HO]; · iexact HO
    isplitr; · rw [MayWait_zero]; iempintro
    iexact Hat
  iintro ⟨HO, Hat, -, Hpay⟩
  ihave Hs := (Entails.of_eq ((sched_rest X c (out_ne h)).trans (pay_out X c h))) $$ Hpay
  rw [wp_ret]; imodintro
  iapply Hk
  isplitl [HO]; · iexists _; iexact HO
  isplitl [Hat] <;> iassumption

/-- The arrival of a half awaited: the half comes back at what the other device packed. -/
theorem arr_runs (h : Fin 2) (Q : PUnit → sProp 𝕄) :
    iprop(records X κ ∗ due c 0 ∗ cred (tallyAt (cell c (.dma (arrS h))) () nHalf) ∗ atPos ER (cell c (.dma (arrS h))) 0 ∅ 0
        ∗ (due c 0 ∗ atPos ER (cell c (.dma (arrS h))) (0 + 1) ∅ 0 ∗ rcvP c h (packed (X (peer c))) -∗ Q ⟨⟩))
      ⊢ Runs c (arrStep h) Q := by
  unfold arrStep Runs
  iintro ⟨#HR, ⟨%W, HO⟩, Hc, Hat, Hk⟩
  iapply (Rounds.wp_wait_rest_token 𝒱₀ ER (sched X) (c : Thread nD τ) none (κ := κ (cell c (.dma (arrS h))))
      (wpE_waitDma2_eq (src := sndH h) (dst := rcvH h) 𝒱₀ (c : Thread nD τ) none Set.univ) (Set.mem_univ _) () (O := 0) (W := W) (R := 0) (m := 0) (T := ∅)
      ((Nat.zero_add _).trans ((sched_expect X c (arr_ne h)).trans (units_arr h)).symm)) $$ [Hc HO Hat]
  · isplitr; · iapply (inv_own X κ c (.inr (.inr h))); iexact HR
    isplitl [Hc]; · iexact Hc
    isplitl [HO]; · iexact HO
    isplitr; · rw [MayWait_zero]; iempintro
    iexact Hat
  iintro ⟨HO, Hat, -, Hpay⟩
  ihave Hs := (Entails.of_eq ((sched_rest X c (arr_ne h)).trans (pay_arr X c h))) $$ Hpay
  rw [wp_ret]; imodintro
  iapply Hk
  isplitl [HO]; · iexists _; iexact HO
  isplitl [Hat] <;> iassumption

/-- The signal: the own receive scratch goes to the other device, and the unit owed is paid. -/
theorem signal_runs (O : CellTallies nD τ sig Unit) (Q : PUnit → sProp 𝕄) :
    iprop(records X κ ∗ due c (O + tallyAt (cell (peer c) barS) () 1) ∗ dutyTok ER (cell (peer c) barS) 0 ()
        ∗ ((∃ f, rcvP c 0 f) ∗ ∃ f, rcvP c 1 f)
        ∗ reached ER (cell c (.dma (arrS 0))) 0 ∗ reached ER (cell c (.dma (arrS 1))) 0
        ∗ (due c O -∗ Q ⟨⟩))
      ⊢ Runs c (semSignalWord (peer c) barrier0 1#32) Q := by
  show _ ⊢ wp frame (wpE (defs₀ (F := F)) 𝒱₀ c none) Set.univ (.op (.semSignal (peer c : Thread nD τ) barrier0 ((1 : ℕ) : ℤ)) .ret) Q
  iintro ⟨#HR, ⟨%W, HO⟩, Ht, Hf, Hr0, Hr1, Hk⟩
  iapply (Rounds.wp_signal 𝒱₀ ER (sched X) (c : Thread nD τ) none (dst := (peer c : Thread nD τ)) (sem := barrier0) (r := 0) (d := ())
      (κ := κ (cell (peer c) barS)) (sched_duties X (peer c) bar_ne) rfl () O rfl) $$ [HO Ht Hf Hr0 Hr1]
  · isplitr; · iapply (inv_bar X κ (peer c)); iexact HR
    isplitl [HO]; · iexact HO
    isplitl [Ht]; · iexact Ht
    isplitl [Hf Hr0 Hr1]
    · rw [show (sched X).payload (cell (peer c) barS) 0 () = barPay (peer c) from rfl]
      unfold barPay; rw [peer_peer]
      isplitl [Hf]; · iexact Hf
      isplitl [Hr0] <;> iassumption
    · iapply (bar_reached X κ (peer c)); iexact HR
  iintro HO
  rw [wp_ret]; imodintro
  iapply Hk
  iexists _; iexact HO

/-- The barrier awaited: the other device's receive scratch comes with it. -/
theorem barrier_runs (O : CellTallies nD τ sig Unit) (hO : Halves c O) (Q : PUnit → sProp 𝕄) :
    iprop(records X κ ∗ levAts L lv ∗ due c O ∗ cred (tallyAt (cell c barS) () 1) ∗ atPos ER (cell c barS) 0 ∅ 0
        ∗ (due c O ∗ atPos ER (cell c barS) (0 + 1) ∅ 0 ∗ barPay c -∗ Q ⟨⟩))
      ⊢ Runs c (semWaitWord barrier0 1#32) Q := by
  show _ ⊢ wp frame (wpE (defs₀ (F := F)) 𝒱₀ c none) Set.univ (.op (.semWait barrier0 ((1 : ℕ) : ℤ)) .ret) Q
  iintro ⟨#HR, #Hlev, ⟨%W, HO⟩, Hc, Hat, Hk⟩
  iapply (Rounds.wp_wait_rest_token 𝒱₀ ER (sched X) (c : Thread nD τ) none (κ := κ (cell c barS))
      (wpE_semWait_eq 𝒱₀ (c : Thread nD τ) none Set.univ) (Set.mem_univ _) () (O := O) (W := W) (R := 0) (m := 0) (T := ∅)
      ((Nat.zero_add 1).trans (sched_expect X c bar_ne).symm)) $$ [Hc HO Hat]
  · isplitr; · iapply (inv_bar X κ c); iexact HR
    isplitl [Hc]; · iexact Hc
    isplitl [HO]; · iexact HO
    isplitr; · iapply (may_wait c barS (fun _ => Nat.le_refl 1) O hO); iexact Hlev
    iexact Hat
  iintro ⟨HO, Hat, -, Hpay⟩
  ihave Hp := (Entails.of_eq ((sched_rest X c bar_ne).trans (show pay X c barS = barPay c from rfl))) $$ Hpay
  rw [wp_ret]; imodintro
  iapply Hk
  isplitl [HO]; · iexists _; iexact HO
  isplitl [Hat]; · iexact Hat
  iexact Hp

/-- One step for each block of a set, when each keeps `I` and turns its `A` into its `B`. -/
theorem each_runs (f : Fin 8 → Body F) (I : sProp 𝕄) (A B : Fin 8 → sProp 𝕄)
    (hf : ∀ (b : Fin 8) (Q : PUnit → sProp 𝕄), iprop(I ∗ A b ∗ (I ∗ B b -∗ Q ⟨⟩)) ⊢ Runs c (f b) Q)
    (S : Finset (Fin 8)) (l : List (Fin 8)) (hS : S = l.toFinset) (hl : l.Nodup) (Q : PUnit → sProp 𝕄) :
    iprop(I ∗ bigSep S A ∗ (I ∗ bigSep S B -∗ Q ⟨⟩)) ⊢ Runs c (each f l) Q := by
  rw [bigSep_eq_bigSepL_of_eq l hS hl, bigSep_eq_bigSepL_of_eq l hS hl]
  clear hS hl
  induction l generalizing Q with
  | nil =>
    unfold each Runs
    rw [wp_ret, bigSepL_nil, bigSepL_nil]
    iintro ⟨HI, HA, Hk⟩
    imodintro
    iapply Hk
    isplitl [HI] <;> iassumption
  | cons b l ih =>
    unfold each
    rw [runs_bind, bigSepL_cons, bigSepL_cons]
    show iprop(I ∗ (A b ∗ bigSepL l A) ∗ (I ∗ (B b ∗ bigSepL l B) -∗ Q ⟨⟩)) ⊢ _
    iintro ⟨HI, ⟨HA, HAs⟩, Hk⟩
    iapply (hf b)
    isplitl [HI]; · iexact HI
    isplitl [HA]; · iexact HA
    iintro ⟨HI, HB⟩
    iapply (ih Q)
    isplitl [HI]; · iexact HI
    isplitl [HAs]; · iexact HAs
    iintro ⟨HI, HBs⟩
    iapply Hk
    isplitl [HI]; · iexact HI
    isplitl [HB] <;> iassumption

end RowMax
-- ==== Proof.Talk.lean ====
/-
  The kernel's body whole: its buffers cut into the pieces the steps hold, the steps in order, the pieces joined again.
-/
module

public import proofs.«01_k».proof.Proof.BodyRun

@[expose] public section

noncomputable section

namespace RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (κ : GSem nD τ sig → ℕ) (c : Dev nD)

/-! ## The buffers and their pieces -/

/-- A buffer of device `c`, whole, at `f`. -/
noncomputable abbrev pt (b : Ref sig .tc) (f : b.ty.Contents (Elt F)) : sProp 𝕄 := ((c : Thread nD τ).loc b) ↦{fullShare} f
/-- A scratch buffer of device `c` at contents not said. -/
noncomputable abbrev ptAny (b : Ref sig .tc) : sProp 𝕄 := iprop(∃ f, pt (F := F) c b f)

/-- A piece of a buffer is held over its rectangle. -/
theorem rows_piece (b : Fin 8) : rowsP X c b = (((c : Thread nD τ).loc main_arg0 ↦[(rowsR b).set]{fullShare} X c) : sProp 𝕄) :=
  congrArg (fun S => (((c : Thread nD τ).loc main_arg0 ↦[S]{fullShare} X c) : sProp 𝕄)) (rows_set b)
theorem slab_piece (b : Fin 8) (f : S8x512x1024.Idx → Elt F .bf16) :
    slabP c b f = (((c : Thread nD τ).loc cc0_scratch0 ↦[(slabR b).set]{fullShare} f) : sProp 𝕄) :=
  congrArg (fun S => (((c : Thread nD τ).loc cc0_scratch0 ↦[S]{fullShare} f) : sProp 𝕄)) (slab_set b)
theorem pack_piece (b : Fin 8) (f : S32x128.Idx → Elt F .bf16) :
    packP c b f = (((c : Thread nD τ).loc cc0_scratch1 ↦[(packR b).set]{fullShare} f) : sProp 𝕄) :=
  congrArg (fun S => (((c : Thread nD τ).loc cc0_scratch1 ↦[S]{fullShare} f) : sProp 𝕄)) (pack_set b)
theorem snd_piece (h : Fin 2) (f : S32x128.Idx → Elt F .bf16) :
    sndP c h f = (((c : Thread nD τ).loc cc0_scratch1 ↦[(halfR h).set]{fullShare} f) : sProp 𝕄) :=
  congrArg (fun S => (((c : Thread nD τ).loc cc0_scratch1 ↦[S]{fullShare} f) : sProp 𝕄)) (sndH_set h)
theorem rcv_piece (h : Fin 2) (f : S32x128.Idx → Elt F .bf16) :
    rcvP c h f = (((c : Thread nD τ).loc cc0_scratch2 ↦[(halfR h).set]{fullShare} f) : sProp 𝕄) :=
  congrArg (fun S => (((c : Thread nD τ).loc cc0_scratch2 ↦[S]{fullShare} f) : sProp 𝕄)) (rcvH_set h)

/-- The argument is its eight blocks. -/
theorem arg_blocks : (pt c main_arg0 (X c) : sProp 𝕄) = bigSep Finset.univ fun b => rowsP X c b := by
  simp only [rows_piece]
  exact Ring.pointsTo_blocks (ℓ := (c : Thread nD τ).loc main_arg0) (fun b : Fin 8 => (rowsR b).set) rows_disjoint rows_cover (X c)

/-- The staging scratch is its eight slabs, each at some contents. -/
theorem stg_split : (ptAny c cc0_scratch0 : sProp 𝕄) ⊢ bigSep Finset.univ fun b => iprop(∃ f, slabP (F := F) c b f) := by
  refine exists_elim fun f => (Entails.of_eq (Ring.pointsTo_blocks (ℓ := (c : Thread nD τ).loc cc0_scratch0) (fun b : Fin 8 => (slabR b).set)
    slab_disjoint slab_cover f)).trans (bigSep_mono fun b _ =>
      (Entails.of_eq (slab_piece c b f).symm).trans ?_)
  show slabP c b f ⊢ iprop(∃ f, slabP (F := F) c b f)
  iintro H; iexists f; iexact H

theorem stg_join (f₀ : S8x512x1024.Idx → Elt F .bf16) :
    (bigSep Finset.univ fun b => iprop(∃ f, slabP (F := F) c b f)) ⊢ ptAny c cc0_scratch0 := by
  simp only [slab_piece]
  exact Ring.pointsTo_blocks_join_exists (ℓ := (c : Thread nD τ).loc cc0_scratch0) (fun b : Fin 8 => (slabR b).set) slab_disjoint slab_cover f₀

/-- The send scratch is its eight packed pieces, each at some contents. -/
theorem snd_split : (ptAny c cc0_scratch1 : sProp 𝕄) ⊢ bigSep Finset.univ fun b => iprop(∃ f, packP (F := F) c b f) := by
  refine exists_elim fun f => (Entails.of_eq (Ring.pointsTo_blocks (ℓ := (c : Thread nD τ).loc cc0_scratch1) (fun b : Fin 8 => (packR b).set)
    pack_disjoint pack_cover f)).trans (bigSep_mono fun b _ =>
      (Entails.of_eq (pack_piece c b f).symm).trans ?_)
  show packP c b f ⊢ iprop(∃ f, packP (F := F) c b f)
  iintro H; iexists f; iexact H

/-- Four packed pieces are their half. -/
theorem snd_half (h : Fin 2) (f : S32x128.Idx → Elt F .bf16) : (bigSep (blocksOf h) fun b => packP c b f) = sndP c h f := by
  rw [snd_piece, ← half_packs]
  exact (bigSep_congr fun b _ => pack_piece c b f).trans
    (pointsTo_biUnion (ℓ := (c : Thread nD τ).loc cc0_scratch1) (blocksOf h) (fun b => (packR b).set)
      (fun b _ b' _ hb => pack_disjoint b b' hb)).symm

/-- The send scratch is its two halves; so is the receive scratch. -/
theorem snd_halves (f : S32x128.Idx → Elt F .bf16) : (pt c cc0_scratch1 f : sProp 𝕄) = iprop(sndP c 0 f ∗ sndP c 1 f) := by
  simp only [snd_piece]
  exact (Ring.pointsTo_blocks (ℓ := (c : Thread nD τ).loc cc0_scratch1) (fun h : Fin 2 => (halfR h).set) half_disjoint half_cover f).trans
    (bigSep_univ_two _)
theorem rcv_halves (f : S32x128.Idx → Elt F .bf16) : (pt c cc0_scratch2 f : sProp 𝕄) = iprop(rcvP c 0 f ∗ rcvP c 1 f) := by
  simp only [rcv_piece]
  exact (Ring.pointsTo_blocks (ℓ := (c : Thread nD τ).loc cc0_scratch2) (fun h : Fin 2 => (halfR h).set) half_disjoint half_cover f).trans
    (bigSep_univ_two _)
theorem rcv_split : (ptAny c cc0_scratch2 : sProp 𝕄) ⊢ iprop((∃ f, rcvP (F := F) c 0 f) ∗ ∃ f, rcvP (F := F) c 1 f) := by
  refine exists_elim fun f => (Entails.of_eq (rcv_halves c f)).trans ?_
  iintro ⟨H0, H1⟩
  isplitl [H0] <;> (iexists f; iassumption)

/-- What is held of the blocks of either half is held of all blocks. -/
theorem by_halves (A : Fin 8 → sProp 𝕄) : bigSep Finset.univ A = iprop(bigSep (blocksOf 0) A ∗ bigSep (blocksOf 1) A) := by
  exact (congrArg (bigSep · A) (show Finset.univ = blocksOf 0 ∪ blocksOf 1 by decide)).trans
    (bigSep_union (show Disjoint (blocksOf 0) (blocksOf 1) by decide))

/-! ## The result -/

/-- The result of device `c`: its own packed maxima joined with the other device's. -/
noncomputable def res : S32x128.Idx → Elt F .bf16 := k0_pay1 (packed (X c)) (packed (X (peer c)))

theorem zero_off : (![0, 0] : Fin S32x128.rank → ℕ) = fun _ => 0 := by decide

/-- The last step joins the two packed maxima into the result. -/
theorem join_runs (v w : S32x128.Idx → Elt F .bf16) (Q : PUnit → sProp 𝕄) :
    iprop((pt c cc0_scratch1 v ∗ pt c cc0_scratch2 w ∗ ptAny c cc0_stg0_0)
        ∗ (pt c cc0_scratch1 v ∗ pt c cc0_scratch2 w ∗ pt c cc0_stg0_0 (k0_pay1 v w) -∗ Q ⟨⟩))
      ⊢ Runs c joinStep Q := by
  unfold joinStep Runs
  iintro ⟨⟨Hv, Hw, ⟨%g, Ho⟩⟩, Hk⟩
  iapply (wp_load_rect 𝒱₀ (c : Thread nD τ) none Set.univ (m := sndM) (r := allR) (S := Finset.univ) (Finset.subset_univ _)) $$ Hv
  iintro Hv
  iapply (wp_load_rect 𝒱₀ (c : Thread nD τ) none Set.univ (m := rcvM) (r := allR) (S := Finset.univ) (Finset.subset_univ _)) $$ Hw
  iintro Hw
  iapply (wp_load_rect 𝒱₀ (c : Thread nD τ) none Set.univ (m := outM) (r := allR) (S := Finset.univ) (Finset.subset_univ _)) $$ Ho
  iintro Ho
  iapply (wp_store 𝒱₀ (c : Thread nD τ) none Set.univ (m := outM) (r := allR) (Mk := Finset.univ) (S := Finset.univ) (Finset.subset_univ _)) $$ Ho
  iintro Ho
  rw [show (outM.access allR).write (Elt F) g (k0_pay1 ((sndM.access allR).read (Elt F) v) ((rcvM.access allR).read (Elt F) w)) Finset.univ
        = k0_pay1 ((sndM.access allR).read (Elt F) v) ((rcvM.access allR).read (Elt F) w)
      from Memref.write_access_unit_zero_univ (Elt F) cc0_stg0_0 zero_off inb_S32x128_S32x128_0_0 g _,
    show (sndM.access allR).read (Elt F) v = v from Memref.read_access_unit_zero (Elt F) cc0_scratch1 zero_off inb_S32x128_S32x128_0_0 v,
    show (rcvM.access allR).read (Elt F) w = w from Memref.read_access_unit_zero (Elt F) cc0_scratch2 zero_off inb_S32x128_S32x128_0_0 w]
  rw [wp_ret]; imodintro
  iapply Hk
  isplitl [Hv]; · iexact Hv
  isplitl [Hw]; · iexact Hw
  iexact Ho

/-! ## The phases -/

/-- The eight copies are started. -/
theorem copies_run (Q : PUnit → sProp 𝕄) :
    iprop(records X κ ∗ (pt c main_arg0 (X c) ∗ ptAny c cc0_scratch0
          ∗ (bigSep Finset.univ fun b => dutyTok ER (cell c (.dma (inS b))) 0 ())
          ∗ bigSep Finset.univ fun b => reached ER (cell c (.dma (inS b))) 0)
        ∗ ((bigSep Finset.univ fun b => cred (tallyAt (cell c (.dma (inS b))) () nIn)) -∗ Q ⟨⟩))
      ⊢ Runs c (each copyStep [0, 1, 2, 3, 4, 5, 6, 7]) Q := by
  iintro ⟨#HR, ⟨Hx, Hs, Ht, Hr⟩, Hk⟩
  ihave Hx := (Entails.of_eq (arg_blocks X c)) $$ Hx
  ihave Hs := (stg_split (F := F) c) $$ Hs
  iapply (each_runs c copyStep (records X κ)
    (fun b => iprop(rowsP X c b ∗ (∃ f, slabP c b f) ∗ dutyTok ER (cell c (.dma (inS b))) 0 () ∗ reached ER (cell c (.dma (inS b))) 0))
    (fun b => cred (tallyAt (cell c (.dma (inS b))) () nIn)) (copy_runs X κ c) Finset.univ [0, 1, 2, 3, 4, 5, 6, 7] (by decide) (by decide))
  isplitr; · iexact HR
  isplitl [Hx Hs Ht Hr]
  · rw [bigSep_sep', bigSep_sep', bigSep_sep']
    isplitl [Hx]; · iexact Hx
    isplitl [Hs]; · iexact Hs
    isplitl [Ht] <;> iassumption
  iintro ⟨-, Hc⟩
  iapply Hk; iexact Hc

/-- The blocks of a half are worked: the half is packed. -/
theorem works_run (O : CellTallies nD τ sig Unit) (hO : Halves c O) (h : Fin 2) (l : List (Fin 8)) (hl : blocksOf h = l.toFinset)
    (hd : l.Nodup) (Q : PUnit → sProp 𝕄) :
    iprop(records X κ ∗ levAts L lv ∗ due c O
        ∗ ((bigSep (blocksOf h) fun b => cred (tallyAt (cell c (.dma (inS b))) () nIn))
          ∗ (bigSep (blocksOf h) fun b => atPos ER (cell c (.dma (inS b))) 0 ∅ 0) ∗ bigSep (blocksOf h) fun b => iprop(∃ f, packP c b f))
        ∗ (due c O ∗ (bigSep (blocksOf h) fun b => atPos ER (cell c (.dma (inS b))) (0 + 1) ∅ 0) ∗ (bigSep (blocksOf h) fun b => rowsP X c b)
          ∗ (bigSep (blocksOf h) fun b => iprop(∃ f, slabP c b f)) ∗ sndP c h (packed (X c)) -∗ Q ⟨⟩))
      ⊢ Runs c (each workStep l) Q := by
  iintro ⟨#HR, #Hlev, HO, ⟨Hc, Hat, Hp⟩, Hk⟩
  iapply (each_runs c workStep iprop(records X κ ∗ levAts L lv ∗ due c O)
    (fun b => iprop(cred (tallyAt (cell c (.dma (inS b))) () nIn) ∗ atPos ER (cell c (.dma (inS b))) 0 ∅ 0 ∗ ∃ f, packP c b f))
    (fun b => iprop(atPos ER (cell c (.dma (inS b))) (0 + 1) ∅ 0 ∗ rowsP X c b ∗ (∃ f, slabP c b f) ∗ packP c b (packed (X c))))
    (work_runs X κ c O hO) (blocksOf h) l hl hd)
  isplitl [HO]
  · isplitr; · iexact HR
    isplitr; · iexact Hlev
    iexact HO
  isplitl [Hc Hat Hp]
  · rw [bigSep_sep', bigSep_sep']
    isplitl [Hc]; · iexact Hc
    isplitl [Hat] <;> iassumption
  rw [bigSep_sep', bigSep_sep', bigSep_sep', snd_half]
  iintro ⟨⟨-, -, HO⟩, Hat, Hx, Hs, Hp⟩
  iapply Hk
  isplitl [HO]; · iexact HO
  isplitl [Hat]; · iexact Hat
  isplitl [Hx]; · iexact Hx
  isplitl [Hs] <;> iassumption

/-- A family over a device's own cells, by kind. -/
theorem own_split (A : Own → sProp 𝕄) : bigSep Finset.univ A
    = iprop((bigSep Finset.univ fun b => A (.inl b)) ∗ (A (.inr (.inl 0)) ∗ A (.inr (.inl 1))) ∗ A (.inr (.inr 0)) ∗ A (.inr (.inr 1))) := by
  refine (bigSep_univ_sum A).trans (congrArg (BI.sep _) ((bigSep_univ_sum _).trans ?_))
  rw [bigSep_univ_two, bigSep_univ_two]; rfl

/-- A device's own cells, past their rounds, give their counters back at zero. -/
theorem close_own : iprop(records X κ ∗ bigSep Finset.univ fun k : Own => atPos ER (cell c (own k)) (0 + 1) ∅ 0)
    ⊢ (|={Set.univ}=> bigSep Finset.univ fun k : Own => semVal (cell c (own k)) 0 : sProp 𝕄) := by
  refine (bigSep_with_persistent (Ψ := fun k : Own => (iprop(|={Set.univ}=> semVal (cell c (own k)) 0) : sProp 𝕄)) fun k _ => ?_).trans
    (bigSep_fupd _ _)
  iintro ⟨#HR, Hat⟩
  iapply (close_cell X _ (cell c (own k)))
  isplitr; · iapply (inv_own X κ c k); iexact HR
  iexact Hat

/-- What device `c` holds at entry of its body. -/
noncomputable def entry : sProp 𝕄 :=
  iprop((opened X κ c ∗ credits c ∗ levAts L lv ∗ due c (O₀ c))
    ∗ (ptAny c cc0_scratch0 ∗ ptAny c cc0_scratch1 ∗ ptAny c cc0_scratch2) ∗ pt c main_arg0 (X c) ∗ ptAny c cc0_stg0_0)
/-- What it holds at exit: the result in place, the counters at zero, nothing owed. -/
noncomputable def atExit : sProp 𝕄 :=
  iprop((semVal (cell c barS) 0 ∗ (bigSep Finset.univ fun k : Own => semVal (cell c (own k)) 0) ∗ due c 0)
    ∗ (ptAny c cc0_scratch0 ∗ ptAny c cc0_scratch1 ∗ ptAny c cc0_scratch2) ∗ pt c main_arg0 (X c) ∗ pt c cc0_stg0_0 (res X c))

/-- The steps in order take a device from entry to exit. -/
theorem steps_run (Q : PUnit → sProp 𝕄) :
    iprop(entry X κ c ∗ (atExit X c -∗ Q ⟨⟩)) ⊢ Runs c (steps (peer c) (peer c) (peer c)) Q := by
  unfold entry opened credits tokens steps
  rw [own_split, bigSep_univ_two, bigSep_univ_two, bigSep_univ_two, bigSep_sep']
  iintro ⟨⟨⟨⟨#HR, Hbar, ⟨⟨Hain, Hrin⟩, ⟨⟨Hao0, Hro0⟩, ⟨Hao1, Hro1⟩⟩, ⟨Haa0, Hra0⟩, ⟨Haa1, Hra1⟩⟩, Htb, Htin, ⟨Hto0, Hto1⟩, Hta0, Hta1⟩,
    ⟨Hcb, Hca0, Hca1⟩, #Hlev, HO⟩, ⟨Hg, Hs, Hr⟩, Hx, Ho⟩, Hk⟩
  ihave Hr := (rcv_split (F := F) c) $$ Hr
  rw [runs_bind]
  iapply (signal_runs X κ c (dueArr c 1 + dueArr c 0))
  isplitr; · iexact HR
  isplitl [HO]; · iexact HO
  isplitl [Htb]; · iexact Htb
  isplitl [Hr]; · iexact Hr
  isplitl [Hra0]; · iexact Hra0
  isplitl [Hra1]; · iexact Hra1
  iintro HO
  rw [runs_bind]
  iapply (copies_run X κ c)
  isplitr; · iexact HR
  isplitl [Hx Hg Htin Hrin]
  · isplitl [Hx]; · iexact Hx
    isplitl [Hg]; · iexact Hg
    isplitl [Htin] <;> iassumption
  iintro Hcin
  ihave Hp := (snd_split (F := F) c) $$ Hs
  ihave Hcin := (Entails.of_eq (by_halves _)) $$ Hcin
  icases Hcin with ⟨Hc0, Hc1⟩
  ihave Hain := (Entails.of_eq (by_halves _)) $$ Hain
  icases Hain with ⟨Ha0, Ha1⟩
  ihave Hp := (Entails.of_eq (by_halves _)) $$ Hp
  icases Hp with ⟨Hp0, Hp1⟩
  rw [runs_bind]
  iapply (works_run X κ c (dueArr c 1 + dueArr c 0) (halves_both c) 0 [0, 1, 2, 3] (by decide) (by decide))
  isplitr; · iexact HR
  isplitr; · iexact Hlev
  isplitl [HO]; · iexact HO
  isplitl [Hc0 Ha0 Hp0]
  · isplitl [Hc0]; · iexact Hc0
    isplitl [Ha0] <;> iassumption
  iintro ⟨HO, Ha0, Hx0, Hg0, Hs0⟩
  rw [runs_bind]
  iapply (barrier_runs X κ c (dueArr c 1 + dueArr c 0) (halves_both c))
  isplitr; · iexact HR
  isplitr; · iexact Hlev
  isplitl [HO]; · iexact HO
  isplitl [Hcb]; · iexact Hcb
  isplitl [Hbar]; · iexact Hbar
  unfold barPay
  iintro ⟨HO, Hbar, ⟨⟨Hd0, Hd1⟩, Hra0, Hra1⟩⟩
  rw [runs_bind]
  iapply (send_runs X κ c (dueArr c 1) 0)
  isplitr; · iexact HR
  isplitl [HO]; · iexact HO
  isplitl [Hs0]; · iexact Hs0
  isplitl [Hd0]; · iexact Hd0
  isplitl [Hto0 Hro0]; · isplitl [Hto0] <;> iassumption
  isplitl [Hta0 Hra0]; · isplitl [Hta0] <;> iassumption
  iintro ⟨Hco0, HO⟩
  rw [runs_bind]
  iapply (works_run X κ c (dueArr c 1) (halves_one c 1) 1 [4, 5, 6, 7] (by decide) (by decide))
  isplitr; · iexact HR
  isplitr; · iexact Hlev
  isplitl [HO]; · iexact HO
  isplitl [Hc1 Ha1 Hp1]
  · isplitl [Hc1]; · iexact Hc1
    isplitl [Ha1] <;> iassumption
  iintro ⟨HO, Ha1, Hx1, Hg1, Hs1⟩
  rw [runs_bind]
  iapply (send_runs X κ c 0 1)
  isplitr; · iexact HR
  isplitl [HO]; · rw [zero_add]; iexact HO
  isplitl [Hs1]; · iexact Hs1
  isplitl [Hd1]; · iexact Hd1
  isplitl [Hto1 Hro1]; · isplitl [Hto1] <;> iassumption
  isplitl [Hta1 Hra1]; · isplitl [Hta1] <;> iassumption
  iintro ⟨Hco1, HO⟩
  rw [runs_bind]
  iapply (left_runs X κ c 0)
  isplitr; · iexact HR
  isplitl [HO]; · iexact HO
  isplitl [Hco0]; · iexact Hco0
  isplitl [Hao0]; · iexact Hao0
  iintro ⟨HO, Hao0, Hs0⟩
  rw [runs_bind]
  iapply (arr_runs X κ c 0)
  isplitr; · iexact HR
  isplitl [HO]; · iexact HO
  isplitl [Hca0]; · iexact Hca0
  isplitl [Haa0]; · iexact Haa0
  iintro ⟨HO, Haa0, Hr0⟩
  rw [runs_bind]
  iapply (left_runs X κ c 1)
  isplitr; · iexact HR
  isplitl [HO]; · iexact HO
  isplitl [Hco1]; · iexact Hco1
  isplitl [Hao1]; · iexact Hao1
  iintro ⟨HO, Hao1, Hs1⟩
  rw [runs_bind]
  iapply (arr_runs X κ c 1)
  isplitr; · iexact HR
  isplitl [HO]; · iexact HO
  isplitl [Hca1]; · iexact Hca1
  isplitl [Haa1]; · iexact Haa1
  iintro ⟨HO, Haa1, Hr1⟩
  ihave Hain := (Entails.of_eq (by_halves (fun b => atPos ER (cell c (.dma (inS b))) (0 + 1) ∅ 0)).symm) $$ [Ha0 Ha1]
  · isplitl [Ha0] <;> iassumption
  ihave Hb := (close_cell X (κ (cell c barS)) (cell c barS)) $$ [Hbar]
  · isplitr; · iapply (inv_bar X κ c); iexact HR
    iexact Hbar
  imod Hb
  ihave Hw := (close_own X κ c) $$ [Hain Hao0 Hao1 Haa0 Haa1]
  · isplitr; · iexact HR
    rw [own_split]
    isplitl [Hain]; · iexact Hain
    isplitl [Hao0 Hao1]; · isplitl [Hao0] <;> iassumption
    isplitl [Haa0] <;> iassumption
  imod Hw
  iapply (join_runs c (packed (X c)) (packed (X (peer c))))
  isplitl [Hs0 Hs1 Hr0 Hr1 Ho]
  · isplitl [Hs0 Hs1]
    · iapply (Entails.of_eq (snd_halves c (packed (X c))).symm)
      isplitl [Hs0] <;> iassumption
    isplitl [Hr0 Hr1]
    · iapply (Entails.of_eq (rcv_halves c (packed (X (peer c)))).symm)
      isplitl [Hr0] <;> iassumption
    iexact Ho
  iintro ⟨Hs, Hr, Ho⟩
  iapply Hk
  unfold atExit res
  isplitl [Hb Hw HO]
  · isplitl [Hb]; · iexact Hb
    isplitl [Hw] <;> iassumption
  isplitl [Hg0 Hg1 Hs Hr]
  · isplitl [Hg0 Hg1]
    · iapply (stg_join (F := F) c (fun _ => X c fun a => ⟨0, by revert a; decide⟩))
      rw [by_halves]
      isplitl [Hg0] <;> iassumption
    isplitl [Hs]; · iexists _; iexact Hs
    iexists _; iexact Hr
  isplitl [Hx0 Hx1]
  · iapply (Entails.of_eq (arg_blocks X c).symm)
    rw [by_halves]
    isplitl [Hx0] <;> iassumption
  iexact Ho

/-- The kernel's body takes a device from entry to exit. -/
theorem body_run (Q : PUnit → sProp 𝕄) :
    iprop(entry X κ c ∗ (atExit X c -∗ Q ⟨⟩))
      ⊢ Runs c (cc0_body (F := F) argM (Memref.isWhole_whole _) outM (Memref.isWhole_whole _) stgM (Memref.isWhole_whole _)
          sndM (Memref.isWhole_whole _) rcvM (Memref.isWhole_whole _) cc0_scratch3 cc0_scratch4 cc0_scratch5) Q := by
  rw [body_eq]
  show _ ⊢ wp frame (wpE (defs₀ (F := F)) 𝒱₀ c none) Set.univ (.op .deviceId fun d => steps (peer d) (peer d) (peer d)) Q
  rw [wp_deviceId]
  exact steps_run X κ c Q

end RowMax
-- ==== Proof.Region.lean ====
/-
  The kernel's region of @main: its proof data, the body's obligation, what enters it and what it leaves.
-/
module

public import proofs.«01_k».proof.Proof.Talk
public import proofs.«01_k».proof.Proof.Gen.KernelIdeal.Launch
public import proofs.«01_k».proof.Proof.Gen.KernelIdeal.Points
public import Idealize.ShloMosaic.Lib.Pipeline.Value
public import Idealize.ShloMosaic.Lib.Pipeline.RegionTalk

@[expose] public section

noncomputable section

namespace RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The arguments as launched. -/
noncomputable abbrev args : Args F := fun c => m ((c : Thread nD τ).loc main_arg0)

/-- A device's buffers as launched, after the region, after the reshape. -/
noncomputable abbrev V₁ (c : Dev nD) : Valuation τ sig (Elt F) := fun b => m (c, b)
noncomputable def V₂ (c : Dev nD) : Valuation τ sig (Elt F) :=
  Function.update (V₁ m c) (Proc.devRef .tc main_v1) (res (args m) c)
noncomputable abbrev V₃ (c : Dev nD) : Valuation τ sig (Elt F) := StableHlo.after hostOps1 (V₂ m c)

theorem V₂_v1 (c : Dev nD) : V₂ m c (Proc.devRef .tc main_v1) = res (args m) c := by
  unfold V₂; exact Function.update_self _ _ _
theorem V₂_ne (c : Dev nD) (b : Ref sig .tc) (h : b ≠ main_v1) : V₂ m c (Proc.devRef .tc b) = V₁ m c (Proc.devRef .tc b) := by
  unfold V₂; exact Function.update_of_ne (StableHlo.devRef_ne_of_ne h) _ _
theorem V₃_arg (c : Dev nD) : V₃ m c (Proc.devRef .tc main_arg0) = args m c := by
  show StableHlo.after hostOps1 (V₂ m c) _ = _
  rw [StableHlo.after_cons, StableHlo.after_nil, StableHlo.reshape_result_ne (h := by decide), V₂_ne m c main_arg0 (by decide)]

/-- The result of the program on device `c`: the kernel's, reshaped to one column. -/
noncomputable def column (X : Args F) (c : Dev nD) : S4096x1.Idx → Elt F .bf16 :=
  fun i => shapeCast S4096x1 (res X c) shapeCasts_S32x128_S4096x1 i

theorem V₃_v2 (c : Dev nD) : V₃ m c (Proc.devRef .tc main_v2) = column (args m) c := by
  show StableHlo.after hostOps1 (V₂ m c) _ = _
  rw [StableHlo.after_cons, StableHlo.after_nil, StableHlo.reshape_result, V₂_v1]
  rfl

/-! ## The proof data -/

noncomputable abbrev adm : (p : Fin 1) → (pcfgs (F := F) p).Adm := fun p => (cfgs p).toPCfg_adm

/-- Where the kernel's own cells sit: every cell of a device but the staging one and the barrier. -/
theorem own_facts : Pipeline.OwnSemFacts spec0 own := by decide

/-- What enters the body beside its buffers, and what it leaves. -/
noncomputable def Xk (c : Dev nD) : sProp 𝕄 := iprop((∃ κ, opened (args m) κ c) ∗ credits c ∗ levAts L lv)
noncomputable def Yk (c : Dev nD) : sProp 𝕄 := semVal (cell c barS) 0

noncomputable abbrev scratches (c : Dev nD) : sProp 𝕄 :=
  iprop(ptAny c cc0_scratch0 ∗ ptAny c cc0_scratch1 ∗ ptAny c cc0_scratch2)

/-- The body's invariant before its one point and after it. -/
noncomputable def Φin (c : Dev nD) : sProp 𝕄 :=
  iprop(Xk m c ∗ scratches c ∗ pt c main_arg0 (args m c) ∗ ∃ r, prngReg c r)
noncomputable def Φout (c : Dev nD) : sProp 𝕄 :=
  iprop((Yk (F := F) c ∗ bigSep Finset.univ fun k : Own => semVal (cell c (own k)) 0) ∗ scratches c ∗ pt c main_arg0 (args m c) ∗ ∃ r, prngReg c r)

/-- The region's data on device `c`: the result window ends at the result; the debts of launch are paid at its one point. -/
noncomputable def dat (c : Dev nD) : Dat τ (Elt F) Unit ℕ UU ℕ cfg0 c where
  A w := m ((cfg0.win w).arr.view.loc (c : Thread nD τ))
  after w _ := match w with
    | ⟨0, _⟩ => res (args m) c
  Φ t := if t.val = 0 then Φin m c else Φout m c
  q _ := fullShare
  owed t := if t.val = 0 then O₀ c else 0

noncomputable def pdats : (p : Fin 1) → (c : Dev nD) → Dat τ (Elt F) Unit ℕ UU ℕ (Pipeline.pin (pcfgs (F := F)) adm p) c
  | 0 => dat m

/-- Before the point everything of launch is owed, after it nothing; so with the invariant. -/
theorem owed_before (c : Dev nD) (t : Fin (cfg0.N + 1)) (h : t.val = 0) : (dat m c).owed t = O₀ c := by
  show (if t.val = 0 then O₀ c else 0) = O₀ c
  exact if_pos h
theorem owed_after (c : Dev nD) (t : Fin (cfg0.N + 1)) (h : t.val ≠ 0) : (dat m c).owed t = 0 := by
  show (if t.val = 0 then O₀ c else 0) = 0
  exact if_neg h
theorem Φ_before (c : Dev nD) (t : Fin (cfg0.N + 1)) (h : t.val = 0) : (dat m c).Φ t = Φin m c := by
  show (if t.val = 0 then Φin m c else Φout m c) = Φin m c
  exact if_pos h
theorem Φ_after (c : Dev nD) (t : Fin (cfg0.N + 1)) (h : t.val ≠ 0) : (dat m c).Φ t = Φout m c := by
  show (if t.val = 0 then Φin m c else Φout m c) = Φout m c
  exact if_neg h
theorem last_ne : (Fin.last cfg0.N).val ≠ 0 := by rw [Fin.val_last, show cfg0.N = 1 from N_0]; decide
theorem first_zero : (t0_0.castSucc : Fin (cfg0.N + 1)).val = 0 := rfl
theorem succ_ne : (t0_0.succ : Fin (cfg0.N + 1)).val ≠ 0 := Nat.succ_ne_zero 0

/-- What is owed at a point, in the two directions. -/
theorem due_owesAt (c : Dev nD) (t : Fin (cfg0.N + 1)) (O : CellTallies nD τ sig Unit) (h : (dat m c).owed t = O) :
    due c O ⊢ ((dat m c).owesAt () t : sProp 𝕄) := by
  unfold Dat.owesAt Pipeline.owesWithin Dat.bound; rw [h]
  iintro ⟨%W, HO⟩; iexists W; isplitr; · ipureintro; exact fun _ _ => Or.inl trivial
  iexact HO
theorem owesAt_due (c : Dev nD) (t : Fin (cfg0.N + 1)) (O : CellTallies nD τ sig Unit) (h : (dat m c).owed t = O) :
    ((dat m c).owesAt () t : sProp 𝕄) ⊢ due c O := by
  unfold Dat.owesAt Pipeline.owesWithin; rw [h]
  iintro ⟨%W, -, HO⟩; iexists W; iexact HO

/-- The body's obligation. -/
theorem body_ok (c : Dev nD) : BodyObligation (dat m c) defs₀ 𝒱₀ () Set.univ := fun t => by
  obtain rfl := fin_N0 t
  rw [bigSep_W0, bigSep_W0, Φ_before m c _ first_zero, Φ_after m c _ succ_ne]
  show iprop(Φin m c ∗ (dat m c).owesAt () t0_0.castSucc ∗ ∃ d, owns (c : Thread nD τ) (Memref.whole cc0_stg0_0) fullShare ((dat m c).before 0 t0_0 d))
    ⊢ Runs c (cc0_body (F := F) argM (Memref.isWhole_whole _) outM (Memref.isWhole_whole _) stgM (Memref.isWhole_whole _)
          sndM (Memref.isWhole_whole _) rcvM (Memref.isWhole_whole _) cc0_scratch3 cc0_scratch4 cc0_scratch5)
      (fun _ => iprop(Φout m c ∗ (dat m c).owesAt () t0_0.succ ∗ owns (c : Thread nD τ) (Memref.whole cc0_stg0_0) fullShare (res (args m) c)))
  rw [owns_whole]
  unfold Φin Φout Xk Yk
  iintro ⟨⟨⟨⟨%κ, Hg⟩, Hc, Hlev⟩, Hs, Hx, Hp⟩, HO, ⟨%d, Ho⟩⟩
  ihave HO := (owesAt_due m c _ (O₀ c) (owed_before m c _ first_zero)) $$ HO
  iapply (body_run (args m) κ c)
  isplitl [Hg Hc Hlev Hs Hx HO Ho]
  · unfold entry
    isplitl [Hg Hc Hlev HO]
    · isplitl [Hg]; · iexact Hg
      isplitl [Hc]; · iexact Hc
      isplitl [Hlev] <;> iassumption
    isplitl [Hs]; · iexact Hs
    isplitl [Hx]; · iexact Hx
    iexists _
    iapply (Entails.of_eq (owns_whole (c : Thread nD τ) cc0_stg0_0 fullShare _)) $$ Ho
  unfold atExit
  iintro ⟨⟨Hb, Hw, HO⟩, Hs, Hx, Ho⟩
  isplitl [Hb Hw Hs Hx Hp]
  · isplitl [Hb Hw]; · isplitl [Hb] <;> iassumption
    isplitl [Hs]; · iexact Hs
    isplitl [Hx] <;> iassumption
  isplitl [HO]
  · iapply (due_owesAt m c _ 0 (owed_after m c _ succ_ne)); iexact HO
  iexact Ho

/-! ## The region as a segment -/

/-- The unscoped buffers of a device: the argument, the kernel's result, the program's result. -/
noncomputable abbrev bufs : Finset (DevRef τ sig) := Pipeline.ucRefs τ sig
/-- Those that are no window's array, and the one of them the body addresses. -/
noncomputable abbrev others : Finset (DevRef τ sig) := {Proc.devRef .tc main_arg0, Proc.devRef .tc main_v2}
noncomputable abbrev mine : Finset (DevRef τ sig) := {Proc.devRef .tc main_arg0}

theorem held_bufs (c : Dev nD) (W : Valuation τ sig (Elt F)) : (StableHlo.held (c : Thread nD τ) bufs W : sProp 𝕄)
    = iprop(pt c main_arg0 (W (Proc.devRef .tc main_arg0)) ∗ pt c main_v1 (W (Proc.devRef .tc main_v1)) ∗ pt c main_v2 (W (Proc.devRef .tc main_v2))) := by
  unfold StableHlo.held
  rw [bigSep_eq_bigSepL_of_eq [Proc.devRef .tc main_arg0, Proc.devRef .tc main_v1, Proc.devRef .tc main_v2] (by decide) (by decide)]
  rfl
theorem held_others (c : Dev nD) (W : Valuation τ sig (Elt F)) : (StableHlo.held (c : Thread nD τ) others W : sProp 𝕄)
    = iprop(pt c main_arg0 (W (Proc.devRef .tc main_arg0)) ∗ pt c main_v2 (W (Proc.devRef .tc main_v2))) := by
  unfold StableHlo.held
  rw [bigSep_eq_bigSepL_of_eq [Proc.devRef .tc main_arg0, Proc.devRef .tc main_v2] (by decide) (by decide)]
  rfl
theorem held_mine (c : Dev nD) (W : Valuation τ sig (Elt F)) : (StableHlo.held (c : Thread nD τ) mine W : sProp 𝕄)
    = pt c main_arg0 (W (Proc.devRef .tc main_arg0)) := by
  unfold StableHlo.held
  exact bigSep_singleton
theorem held_arr (c : Dev nD) (W : Valuation τ sig (Elt F)) :
    (StableHlo.held (c : Thread nD τ) (Pipeline.arrRefs (τ := τ) (pcfgs (F := F) 0).spec) W : sProp 𝕄)
    = pt c main_v1 (W (Proc.devRef .tc main_v1)) := by
  have e : Pipeline.arrRefs (τ := τ) (pcfgs (F := F) 0).spec = {Proc.devRef .tc main_v1} := by
    show Pipeline.arrRefs (τ := τ) spec0 = _
    decide
  rw [e]
  unfold StableHlo.held
  exact bigSep_singleton

theorem rest0 (c : Dev nD) : (Pipeline.scopedRest (Ix := Unit) (Name := ℕ) (U := UU) (Lvl := ℕ) (Val := Elt F)
    (Pipeline.pin (pcfgs (F := F)) adm 0).spec c : sProp 𝕄) = scratches c := scopedRest0_eq c

/-- What launch keeps for the region. -/
noncomputable def Tk (c : Dev nD) : sProp 𝕄 := iprop((∃ κ, ghost (args m) κ c) ∗ credits c)

/-- The device's own cells are opened with their counters at zero. -/
theorem open_own (c : Dev nD) : iprop(Tk m c ∗ Pipeline.ownSems0 own c ∗ levAts L lv) ⊢ (|={Set.univ}=> Xk m c : sProp 𝕄) := by
  unfold Tk Xk ghost opened Pipeline.ownSems0
  iintro ⟨⟨⟨%κ, #HR, Hat, Hop, Ht⟩, Hc⟩, Hs, Hlev⟩
  ihave Ho := (show iprop(records (args m) κ ∗ bigSep Finset.univ fun k : Own => iprop(openTok ER (cell c (own k)) ∗ semVal (cell c (own k)) 0))
      ⊢ (|={Set.univ}=> bigSep Finset.univ fun k : Own => iprop(atPos ER (cell c (own k)) 0 ∅ 0 ∗ reached ER (cell c (own k)) 0) : sProp 𝕄) from by
    refine (bigSep_with_persistent (Ψ := fun k : Own =>
        (iprop(|={Set.univ}=> (atPos ER (cell c (own k)) 0 ∅ 0 ∗ reached ER (cell c (own k)) 0)) : sProp 𝕄)) fun k _ => ?_).trans (bigSep_fupd _ _)
    iintro ⟨#HR, Ho, Hv⟩
    iapply (Rounds.cell_open ER (sched (args m)) (g := cell c (own k)) (Set.mem_univ (κ (cell c (own k)))))
    isplitr; · iapply (inv_own (args m) κ c k); iexact HR
    isplitl [Ho] <;> iassumption) $$ [Hop Hs]
  · isplitr; · iexact HR
    rw [bigSep_sep']
    isplitl [Hop] <;> iassumption
  imod Ho
  imodintro
  isplitl [Hat Ho Ht]
  · iexists κ
    isplitr; · iexact HR
    isplitl [Hat]; · iexact Hat
    isplitl [Ho] <;> iassumption
  isplitl [Hc] <;> iassumption

theorem enter (c : Dev nD) : iprop(Pipeline.scopedRest (Pipeline.pin (pcfgs (F := F)) adm 0).spec c ∗ (∃ r, prngReg c r)
      ∗ StableHlo.held (c.tc : Thread nD τ) mine (V₁ m c) ∗ Xk m c) ⊢ (pdats m 0 c).Φ 0 := by
  rw [show (pdats m 0 c).Φ 0 = Φin m c from Φ_before m c 0 rfl, rest0, held_mine]
  unfold Φin
  iintro ⟨Hs, Hp, Hx, HX⟩
  isplitl [HX]; · iexact HX
  isplitl [Hs]; · iexact Hs
  isplitl [Hx] <;> iassumption

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) mine (V₂ m c) ∗ Pipeline.ownSems0 own c ∗ Yk c) := by
  rw [show (pdats m 0 c).Φ (Fin.last _) = Φout m c from Φ_after m c _ last_ne, rest0, held_mine, V₂_ne m c main_arg0 (by decide)]
  unfold Φout Pipeline.ownSems0
  iintro ⟨⟨HY, Hw⟩, Hs, Hx, Hp⟩
  isplitl [Hs]; · iexact Hs
  isplitl [Hp]; · iexact Hp
  isplitl [Hx]; · iexact Hx
  isplitl [Hw] <;> iassumption

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The result's array at entry, and with the block of the one point written back. -/
theorem arr_before (c : Dev nD) (w : Fin 1) : (dat m c).arrAt w 0 = V₁ m c (Proc.devRef .tc (Pipeline.arrRef spec0 w)) := by
  obtain rfl : w = 0 := Subsingleton.elim _ _
  rfl
/-- The result's one block is its whole array, index by index. -/
theorem blk_emb (t : Fin cfg0.N) (i : S32x128.Idx) : ((cfg0.win 0).blk t).view.emb i = i := by
  obtain rfl := fin_N0 t
  exact funext fun a => Fin.ext (Pipeline.Window.rect_emb_val_of_index_zero (cfg0.win 0) t0_0 a (by revert a; decide) i)
theorem arr_after (c : Dev nD) (w : Fin 1) : (dat m c).arrAt w cfg0.N = V₂ m c (Proc.devRef .tc (Pipeline.arrRef spec0 w)) := by
  obtain rfl : w = 0 := Subsingleton.elim _ _
  refine Eq.trans ?_ (V₂_v1 m c).symm
  refine (dat m c).arrAt_eq_of_cover 0 (res (args m) c) (fun t _ => funext fun i => ?_) fun i => ⟨t0_0, flush0_0 t0_0, ?_⟩
  · exact (congrArg (res (args m) c) (blk_emb t i)).symm
  · rw [← blk_emb t0_0 i]
    exact View.emb_mem_set _ _

end RowMax
-- ==== Proof.Run.lean ====
/-
  The run of @main: the protocol's cells funded and dealt to the devices at launch, the kernel's region and the reshape after
  it as segments, and what every final state holds.
-/
module

public import proofs.«01_k».proof.Proof.Region
public import proofs.«01_k».proof.Proof.Gen.KernelIdeal.Frame
public import Idealize.ShloMosaic.Harness.Basic

@[expose] public section

noncomputable section

namespace RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

local notation "ℝ𝕊" => Pipeline.RegionSeg (pcfgs (F := F)) adm (pdats m) () defs₀ 𝒱₀ L lv

set_option backward.isDefEq.respectTransparency.types false in
/-- The kernel's region: entered owing the launch's debts, left owing nothing. -/
noncomputable def region : ℝ𝕊 0 :=
  Pipeline.RegionSeg.ofTalk (pcfgs (F := F)) adm (pdats m) () defs₀ 𝒱₀ L lv 0 own own_facts
    mine others (by decide) kit0 rfl (fun c => (body_ok m c).loose)
    (fun _ => 0) O₀ (fun c => (owed_before m c 0 rfl).trans (zero_add _).symm) (fun c => owed_after m c _ last_ne) (fun _ => rfl)
    (fun _ w => by obtain rfl : w = 0 := Subsingleton.elim _ _; rfl)
    (V₁ m) (V₂ m) (fun c b hb => by
      have e : b = Proc.devRef .tc main_v2 := by revert b; decide
      subst e; exact V₂_ne m c main_v2 (by decide))
    (Tk m) Yk (Xk m) Yk (open_own m) (enter m) (leave m)
    (fun c => by iintro H; imodintro; iexact H)
    (fun _ => 0)
    ⟨fun c _ _ => mem_L c _ (), fun c w s => by
        obtain rfl : w = 0 := Subsingleton.elim _ _
        exact (by decide : ∀ s : Fin (win0_0.nbuf), (if 11 ≤ (win0_0.sem s).val then 2 else 0) ≤ 0) s,
      fun c t g i h => by
        by_cases ht : t.val = 0
        · rw [show (pdats m 0 c).owed t = O₀ c from owed_before m c t ht] at h; exact O₀_pos h
        · rw [show (pdats m 0 c).owed t = 0 from owed_after m c t ht] at h; exact absurd h (Nat.lt_irrefl 0)⟩
    (fun _ => iprop(emp))
    (arr_before m) (arr_after m)

/-- What rides along the reshape: the barrier's counter at zero, nothing owed. -/
noncomputable abbrev rest (c : Dev nD) : sProp 𝕄 := iprop(semVal (cell c barS) 0 ∗ due c 0)

/-- The reshape of the kernel's result. -/
noncomputable def reshaped : Pipeline.HostSeg (Name := ℕ) (U := UU) (pcfgs (F := F)) defs₀ 𝒱₀ L lv :=
  Pipeline.HostSeg.ofOps _ _ _ _ _ bufs hostOps1 (fun op hop => Pipeline.sub_ucRefs op (List.forall_iff_forall_mem.mp hostOps1_sub op hop))
    (List.forall_iff_forall_mem.mp hostOps1_fresh) (V₂ m) (fun c => rest c)

/-! ## What launch deals -/

theorem cells_disjoint : Disjoint barCells ownCells := by
  rw [Finset.disjoint_left]
  intro g hb ho
  obtain ⟨c, -, rfl⟩ := Finset.mem_map.mp hb
  obtain ⟨ck, -, h⟩ := Finset.mem_map.mp ho
  exact (by decide : ∀ k : Own, own k ≠ barS) ck.2 (congrArg Prod.snd h)

/-- One token for each cell's one duty. -/
noncomputable def toks : Finset (GSem nD τ sig × ℕ × Unit) :=
  (barCells ∪ ownCells).map ⟨fun g => (g, 0, ()), fun _ _ h => congrArg Prod.fst h⟩

/-- The launch element: the pipeline library's for the staging cell, and the protocol's. -/
noncomputable def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's element, all of it with the first device. -/
noncomputable def G (c : Dev nD) : sProp 𝕄 := if c = 0 then BI.own (ER (launchOf barCells ownCells toks)) else BI.emp
theorem G_all : bigSep Finset.univ (G (F := F)) = BI.own (ER (launchOf barCells ownCells toks)) := by
  have e : bigSep (Finset.univ.erase (0 : Dev nD)) (G (F := F)) = (BI.emp : sProp 𝕄) :=
    (bigSep_congr fun c hc => (if_neg (Finset.ne_of_mem_erase hc) : G c = BI.emp)).trans (BI.bigSep_emp_const _)
  rw [bigSep_univ_at _ (0 : Dev nD), e]
  exact (BI.equiv_iff.mp sep_emp).trans (if_pos rfl)

/-- A family over the barrier cells is one over devices; a family over the own cells, one over devices and kinds. -/
theorem over_bar (Φ : GSem nD τ sig → sProp 𝕄) : bigSep barCells Φ = bigSep Finset.univ fun c : Dev nD => Φ (cell c barS) := bigSep_map _
theorem over_own (Φ : GSem nD τ sig → sProp 𝕄) :
    bigSep ownCells Φ = bigSep Finset.univ fun c : Dev nD => bigSep Finset.univ fun k : Own => Φ (cell c (own k)) := by
  unfold ownCells; rw [bigSep_map, bigSep_univ_prod]; rfl

/-- Every token to the device that pays its duty: barriers and arrivals to the other device of the row. -/
theorem deal : bigSep toks (fun x => (dutyTok ER x.1 x.2.1 x.2.2 : sProp 𝕄)) ⊢ bigSep Finset.univ fun c : Dev nD => tokens c := by
  have e : bigSep toks (fun x => (dutyTok ER x.1 x.2.1 x.2.2 : sProp 𝕄))
      = bigSep (barCells ∪ ownCells) fun g => (dutyTok ER g 0 () : sProp 𝕄) := bigSep_map _
  refine (Entails.of_eq e).trans ((Entails.of_eq (bigSep_union cells_disjoint)).trans ?_)
  show iprop(bigSep barCells (fun g => (dutyTok ER g 0 () : sProp 𝕄)) ∗ bigSep ownCells fun g => (dutyTok ER g 0 () : sProp 𝕄)) ⊢ _
  rw [over_bar, over_own]
  iintro ⟨Hb, Ho⟩
  ihave Ho := (Entails.of_eq (bigSep_congr fun (c : Dev nD) _ => own_split fun k => (dutyTok ER (cell c (own k)) 0 () : sProp 𝕄))) $$ Ho
  ihave Ho := bigSep_unpair $$ Ho
  icases Ho with ⟨Hi, Ho⟩
  ihave Ho := bigSep_unpair $$ Ho
  icases Ho with ⟨Ho, Ha⟩
  ihave Hb := (Entails.of_eq (bigSep_univ_equiv swap fun c : Dev nD => (dutyTok ER (cell c barS) 0 () : sProp 𝕄))) $$ Hb
  ihave Ha := (Entails.of_eq (bigSep_univ_equiv swap fun c : Dev nD =>
    iprop(dutyTok ER (cell c (.dma (arrS 0))) 0 () ∗ dutyTok ER (cell c (.dma (arrS 1))) 0 () : sProp 𝕄))) $$ Ha
  unfold tokens
  simp only [bigSep_univ_two]
  iapply bigSep_pair; isplitl [Hb]; · iexact Hb
  iapply bigSep_pair; isplitl [Hi]; · iexact Hi
  iapply bigSep_pair; isplitl [Ho]; · iexact Ho
  iexact Ha

/-- What every device owes the other's cell is launched with the cell's owner. -/
theorem cred_of (s : SemLoc sig) (n : ℕ) (c : Dev nD) :
    (Pipeline.launchCred (fun d : Dev nD => (tallyAt (cell (peer d) s) () n : CellTallies nD τ sig Unit)) c : sProp 𝕄)
      ⊢ cred (tallyAt (cell c s) () n) := by
  refine (Pipeline.launchCred_elim _ c s).trans (Entails.of_eq (congrArg cred ?_))
  unfold tallyAt
  refine congrArg _ (Finsupp.ext fun u => ?_)
  cases u
  rw [Pipeline.launchCredit_owing, Finsupp.single_eq_same, Finset.sum_eq_single (peer c) (fun d _ hd => ?_) (fun h => absurd (Finset.mem_univ _) h)]
  · show tallyAt (cell (peer (peer c)) s) () n (cell c s) () = n
    rw [peer_peer, tallyAt_apply, if_pos ⟨rfl, rfl⟩]
  · show tallyAt (cell (peer d) s) () n (cell c s) () = 0
    rw [tallyAt_apply, if_neg]
    rintro ⟨h, -⟩
    have e : c = peer d := congrArg (fun g : GSem nD τ sig => g.1.1) h
    exact hd (by rw [e, peer_peer])

/-- So a device has the credits it waits with. -/
theorem creds (c : Dev nD) : (Pipeline.launchCred O₀ c : sProp 𝕄) ⊢ credits c := by
  have e : (Pipeline.launchCred O₀ c : sProp 𝕄) = iprop((Pipeline.launchCred (fun d => dueArr d 1) c
      ∗ Pipeline.launchCred (fun d => dueArr d 0) c) ∗ Pipeline.launchCred (fun d => tallyAt (cell (peer d) barS) () 1) c) :=
    (Pipeline.launchCred_add (fun d => dueArr d 1 + dueArr d 0) (fun d => tallyAt (cell (peer d) barS) () 1) c).trans
      (congrArg (fun P : sProp 𝕄 => iprop(P ∗ Pipeline.launchCred (fun d => tallyAt (cell (peer d) barS) () 1) c))
        (Pipeline.launchCred_add (fun d => dueArr d 1) (fun d => dueArr d 0) c))
  rw [e]
  unfold credits
  rw [bigSep_univ_two]
  iintro ⟨⟨H1, H0⟩, Hb⟩
  isplitl [Hb]; · iapply (cred_of (F := F) barS 1 c) $$ Hb
  isplitl [H0]
  · iapply (cred_of (F := F) (.dma (arrS 0)) nHalf c) $$ H0
  · iapply (cred_of (F := F) (.dma (arrS 1)) nHalf c) $$ H1

theorem unscoped_bar : ∀ s : SemLoc sig, s.isScoped .tc = false → s = barS := by decide
theorem bar_sem (c : Dev nD) : (unscopedSems0 c : sProp 𝕄) = semVal (cell c barS) 0 := by
  unfold unscopedSems0
  rw [show (Finset.univ.filter fun s : SemLoc sig => ¬ s.isScoped .tc) = {barS} from by decide, bigSep_singleton]

/-- What a device starts @main with; what it ends it with. -/
noncomputable abbrev starts (c : Dev nD) : sProp 𝕄 :=
  iprop(StableHlo.held (c : Thread nD τ) bufs (V₁ m c) ∗ Tk m c ∗ due c (O₀ c) ∗ ∃ r, prngReg c r)
noncomputable abbrev ends (c : Dev nD) : sProp 𝕄 :=
  iprop(StableHlo.held (c : Thread nD τ) bufs (V₃ m c) ∗ semVal (cell c barS) 0)

/-- The part of the ghost state that stays with one device. -/
noncomputable abbrev part (c : Dev nD) : sProp 𝕄 :=
  iprop(atPos ER (cell c barS) 0 ∅ 0 ∗ (bigSep Finset.univ fun k : Own => openTok ER (cell c (own k))) ∗ tokens c)
/-- What else a device has at launch. -/
noncomputable abbrev other (c : Dev nD) : sProp 𝕄 :=
  iprop(StableHlo.held (c : Thread nD τ) bufs (V₁ m c) ∗ credits c ∗ due c (O₀ c) ∗ ∃ r, prngReg c r)

theorem starts_of (κ : GSem nD τ sig → ℕ) (c : Dev nD) : iprop(records (args m) κ ∗ (part c ∗ other m c)) ⊢ starts m c := by
  unfold starts Tk ghost
  iintro ⟨#HR, Hg, Hh, Hc, HO, Hp⟩
  isplitl [Hh]; · iexact Hh
  isplitl [Hg Hc]
  · isplitl [Hg]
    · iexists κ
      isplitr; · iexact HR
      iexact Hg
    · iexact Hc
  isplitl [HO] <;> iassumption

/-- The launch: all cells of all devices funded at once, the rest dealt out. -/
theorem launch_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (fun c => starts m c) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(other m c ∗ (semVal (cell c barS) 0 ∗ G c)) : sProp 𝕄) := by
    rw [show unscopedBufs c (fun b => m ((c : Thread nD τ).loc b)) = StableHlo.held (c : Thread nD τ) bufs (V₁ m c)
      from Pipeline.unscopedBufs_held c (V₁ m c), bar_sem]
    iintro ⟨Hh, Hs, HO, Hc, Hp, HG⟩
    ihave Hc := (creds (F := F) c) $$ Hc
    isplitl [Hh Hc HO Hp]
    · isplitl [Hh]; · iexact Hh
      isplitl [Hc]; · iexact Hc
      isplitl [HO]; · iexists ∅; iexact HO
      iexists (ρ c); iexact Hp
    isplitl [Hs] <;> iassumption
  iintro ⟨H, -⟩
  ihave H := (show _ ⊢ (bigSep Finset.univ fun c : Dev nD => iprop(other m c ∗ (semVal (cell c barS) 0 ∗ G c)) : sProp 𝕄) from bigSep_mono fun c _ => each c) $$ H
  ihave H := bigSep_unpair $$ H
  icases H with ⟨Hrest, H⟩
  ihave H := bigSep_unpair $$ H
  icases H with ⟨Hs, HG⟩
  ihave HG := (Entails.of_eq (G_all (F := F))) $$ HG
  ihave Hs := (Entails.of_eq (over_bar fun g => (semVal g 0 : sProp 𝕄)).symm) $$ Hs
  imod (Rounds.fund_launch ER (sched (args m)) cells_disjoint (fun g _ h => h) toks) $$ [Hs HG] with ⟨%κ, -, #HI, #Hr, Hat, Hop, Ht⟩
  · isplitl [Hs] <;> iassumption
  imodintro
  iapply (bigSep_with_persistent (R := records (args m) κ) (Φ := fun c => iprop(part c ∗ other m c)) fun c _ => starts_of m κ c)
  isplitr
  · unfold records
    isplitr; · iexact HI
    iexact Hr
  iapply bigSep_pair
  isplitr [Hrest]
  · iapply bigSep_pair
    isplitl [Hat]; · iapply (Entails.of_eq (over_bar fun g => (atPos ER g 0 ∅ 0 : sProp 𝕄))) $$ Hat
    iapply bigSep_pair
    isplitl [Hop]; · iapply (Entails.of_eq (over_own fun g => (openTok ER g : sProp 𝕄))) $$ Hop
    iapply (deal (F := F)) $$ Ht
  · iexact Hrest

/-! ## The chain of the segments -/

theorem region_pre (c : Dev nD) : starts m c ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Tk m c ∗ ∃ Wd, owes (c : Thread nD τ) (0 + O₀ c) Wd)
  rw [held_arr, held_others, zero_add]
  unfold starts
  rw [held_bufs]
  iintro ⟨⟨Hx, Hv, Hy⟩, HT, HO, Hp⟩
  isplitl [Hv]; · iexact Hv
  isplitl [Hp]; · iexact Hp
  isplitl [Hx Hy]
  · isplitl [Hx Hy]; · isplitl [Hx] <;> iassumption
    iempintro
  isplitl [HT] <;> iassumption

theorem region_post (c : Dev nD) : (region m).post c ⊢ iprop(StableHlo.held (c : Thread nD τ) bufs (V₂ m c) ∗ rest c) := by
  show iprop(StableHlo.held (c.tc : Thread nD τ) (Pipeline.arrRefs (τ := τ) (pcfgs (F := F) 0).spec) (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [held_arr, held_others, held_bufs]
  unfold Yk
  iintro ⟨Hv, -, ⟨⟨Hx, Hy⟩, -⟩, Hb, HO⟩
  isplitl [Hx Hv Hy]
  · isplitl [Hx]; · iexact Hx
    isplitl [Hv] <;> iassumption
  isplitl [Hb] <;> iassumption

/-- @main as its two segments. -/
noncomputable def segs : List (Pipeline.Seg (pcfgs (F := F)) adm (pdats m) () defs₀ 𝒱₀ L lv) := [.region (region m), .host (reshaped m)]

set_option backward.isDefEq.respectTransparency.types false in
/-- Every fair run of @main ends, with each argument as launched, each result the column of maxima, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = column (args m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (reshaped m) (region m) rfl c]; exact BI.Entails.refl _)
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := fun c => starts m c) (Tₙ := fun c => ends m c)
    (hch := by
      refine ⟨fun c => region_pre m c, fun c => region_post m c, fun c => ?_⟩
      show iprop(StableHlo.held (c : Thread nD τ) bufs (V₃ m c) ∗ rest c) ⊢ iprop(ends m c ∗ due c 0)
      iintro ⟨Hh, Hb, HO⟩
      isplitr [HO]
      · isplitl [Hh] <;> iassumption
      · iexact HO)
    (hinit := launch_all m ρ)
    (QY := fun c s => (s.mem ((c : Thread nD τ).loc main_arg0) = args m c ∧ s.mem ((c : Thread nD τ).loc main_v2) = column (args m) c)
      ∧ s.sem (cell c barS) = 0)
    (hfin := fun c s' => by
      dsimp only [ends]
      rw [held_bufs, V₃_arg, V₃_v2]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1, sem_eq_zero hs fun c s hs' => by
      obtain rfl := unscoped_bar s hs'
      exact (h c).2⟩)

end RowMax
-- ==== Proof.Value.lean ====
/-
  The value of the kernel at exact arithmetic. A maximum is described by its upper bounds: a number bounds the result at a row
  when it bounds the initial value and every entry of that row, here in the two halves two devices hold, there in the whole row.
-/
module

public import proofs.«01_k».proof.Proof.Run
public import proofs.«01_k».proof.Proof.Gen.ReferenceIdeal.Run
public import Idealize.ShloMosaic.PureOps.Reduce
public import Idealize.ShloMosaic.PureOps.Ideal.Laws
public import Idealize.ShloMosaic.Lib.ValueIdxCore
public import Idealize.ShloMosaic.Lib.Layout

@[expose] public section

noncomputable section

namespace RowMax

open Cert.KernelIdeal Cert.KernelIdeal.Gen
open Idealize.ShloMosaic Idealize.ShloMosaic.TcCoe
open Idealize.ShloMosaic.ValueIdx

/-- The value every maximum starts from. -/
noncomputable abbrev low : EReal := FloatOps.ofBits (F := Ideal) .bf16 0xFF80#16

/-- A value is at most `t`. -/
def Below (x : Elt Ideal .bf16) (t : EReal) : Prop := @LE.le EReal _ x t

/-- A number bounds the maximum of row `128 z₀ + z₁` of a block when it bounds the start and the row's entries. -/
theorem pay_le (X : S4096x1024.Idx → Elt Ideal .bf16) (b : Fin 8) (z : S4x128.Idx) (r : Fin 4096)
    (hr : r.val = 512 * b.val + (128 * (z 0).val + (z 1).val)) (t : EReal) :
    Below (k0_pay2 (block X b) z) t ↔ low ≤ t ∧ ∀ k : Fin 1024, Below (X (ix2 r k)) t := by
  have hz0 : (z 0).val < 4 := (z 0).isLt
  have hz1 : (z 1).val < 128 := (z 1).isLt
  have hx : ∀ x : S512x1024.Idx, shapeCast S512x1024 (block X b) shapeCasts_S1x512x1024_S512x1024 x = X ((rowsR b).emb x) :=
    fun x => congrArg (fun y => X ((rowsR b).emb y)) ((Shape.reshapeEquiv_reshapeEquiv _ _ x).trans (Shape.reshapeEquiv_self _ x))
  have hrow : ∀ x : S512x1024.Idx, (x 0).val = 128 * (z 0).val + (z 1).val → (rowsR b).emb x = ix2 r (x 1) := fun x h =>
    funext fun a => match a with
      | ⟨0, _⟩ => Fin.ext (by show 512 * b.val + 1 * (x 0).val = r.val; omega)
      | ⟨1, _⟩ => Fin.ext (by show 0 + 1 * (x 1).val = (x 1).val; omega)
  unfold k0_pay2
  dsimp only
  rw [shapeCast_self, shapeCast_apply _ _ z (ix1 ⟨128 * (z 0).val + (z 1).val, by omega⟩) (by
    rw [Shape.rowMajor_val_one, Shape.rowMajor_val_two]; show 128 * (z 0).val + (z 1).val = (z 0).val * 128 + (z 1).val; omega)]
  refine (iff_of_eq (congrArg (Below · t) (multiReduction_maximumf_eq_fold _ _ _ _ _ _))).trans ?_
  refine (Finset.fold_max_le t).trans (and_congr_right fun _ => ⟨fun h k => ?_, fun h x hx' => ?_⟩)
  · have := h (ix2 ⟨128 * (z 0).val + (z 1).val, by omega⟩ k) (Finset.mem_filter.mpr ⟨Finset.mem_univ _, funext fun a => ?_⟩)
    · rw [hx, hrow _ rfl] at this; exact this
    · obtain rfl : a = 0 := Subsingleton.elim _ _
      exact Fin.ext (Shape.Reduces.drop_apply_val_of_eq reduces_S512x1024_S512 _ 0 0)
  · rw [hx, hrow x ?_]; · exact h _
    have e := congrArg (fun j : S512.Idx => (j 0).val) (Finset.mem_filter.mp hx').2
    exact (Shape.Reduces.drop_apply_val_of_eq reduces_S512x1024_S512 x 0 0).symm.trans e

/-- So for the packed maxima, read at the place of row `r`. -/
theorem packed_le (X : S4096x1024.Idx → Elt Ideal .bf16) (i : S32x128.Idx) (r : Fin 4096) (hr : r.val = 128 * (i 0).val + (i 1).val)
    (t : EReal) : Below (packed X i) t ↔ low ≤ t ∧ ∀ k : Fin 1024, Below (X (ix2 r k)) t :=
  pay_le X _ _ r (by show r.val = 512 * ((i 0).val / 4) + (128 * ((i 0).val % 4) + (i 1).val); omega) t

/-- So for the result at row `r`: the row's entries here and in the other device's block. -/
theorem column_le (X : Args Ideal) (c : Dev nD) (i : S4096x1.Idx) (r : Fin 4096) (hr : (i 0).val = r.val) (t : EReal) :
    Below (column X c i) t
      ↔ low ≤ t ∧ ∀ k : Fin 1024, Below (X c (ix2 r k)) t ∧ Below (X (peer c) (ix2 r k)) t := by
  have hi1 : (i 1).val < 1 := (i 1).isLt
  have hp : ∀ Y : S4096x1024.Idx → Elt Ideal .bf16,
      Below (packed Y (ix2 ⟨r.val / 128, by omega⟩ ⟨r.val % 128, Nat.mod_lt _ (by decide)⟩)) t ↔ low ≤ t ∧ ∀ k : Fin 1024, Below (Y (ix2 r k)) t :=
    fun Y => packed_le Y _ r (by show r.val = 128 * (r.val / 128) + r.val % 128; omega) t
  unfold column
  rw [shapeCast_apply _ _ i (ix2 ⟨r.val / 128, by omega⟩ ⟨r.val % 128, Nat.mod_lt _ (by decide)⟩) (by
    rw [Shape.rowMajor_val_two, Shape.rowMajor_val_two]
    show r.val / 128 * 128 + r.val % 128 = (i 0).val * 1 + (i 1).val; omega)]
  refine (max_le_iff (a := (packed (X c) _ : EReal))).trans ((and_congr (hp _) (hp _)).trans ?_)
  exact ⟨fun h => ⟨h.1.1, fun k => ⟨h.1.2 k, h.2.2 k⟩⟩, fun h => ⟨⟨h.1, fun k => (h.2 k).1⟩, h.1, fun k => (h.2 k).2⟩⟩

/-- The reference's result: the maximum of every row of the whole array. -/
noncomputable def wanted (x : Cert.ReferenceIdeal.S8192x2048.Idx → Elt Ideal .bf16) : Cert.ReferenceIdeal.S8192x1.Idx → Elt Ideal .bf16 :=
  broadcastInDim Cert.ReferenceIdeal.S8192x1 ![0] Cert.ReferenceIdeal.Gen.bcast_S8192_S8192x1_0
    (Host.reduce (FloatOps.maximumf (F := Ideal) (φ := .bf16)) x (constant (F := Ideal) Cert.ReferenceIdeal.S_ .bf16 0xFF80#16) Cert.ReferenceIdeal.Gen.reducesTo_S8192x2048_S8192_d1
      Cert.ReferenceIdeal.Gen.h_S_)

/-- A number bounds it at a row when it bounds the start and the row's entries. -/
theorem wanted_le (x : Cert.ReferenceIdeal.S8192x2048.Idx → Elt Ideal .bf16) (j : Cert.ReferenceIdeal.S8192x1.Idx) (R : Fin 8192) (hR : j 0 = R) (t : EReal) :
    Below (wanted x j) t ↔ low ≤ t ∧ ∀ k : Fin 2048, Below (x (ix2 R k)) t := by
  subst hR
  have e : wanted x j = Host.reduce (FloatOps.maximumf (F := Ideal) (φ := .bf16)) x (constant (F := Ideal) Cert.ReferenceIdeal.S_ .bf16 0xFF80#16)
      Cert.ReferenceIdeal.Gen.reducesTo_S8192x2048_S8192_d1 Cert.ReferenceIdeal.Gen.h_S_ (ix1 (j 0)) :=
    broadcastInDim_apply _ _ _ j (ix1 (j 0)) fun a => match a with
      | ⟨0, _⟩ => by show (j 0).val = if 8192 = 1 then 0 else (j 0).val; exact (if_neg (by decide)).symm
  rw [e, Host.reduce_eq_fold]
  refine (Finset.fold_max_le t).trans (and_congr_right fun _ => ⟨fun h k => ?_, fun h y hy => ?_⟩)
  · exact h (ix2 (j 0) k) (Finset.mem_filter.mpr ⟨Finset.mem_univ _, funext fun a => by
      obtain rfl : a = 0 := Subsingleton.elim _ _
      exact Fin.ext (Shape.ReducesTo.drop_apply_val_of_eq Cert.ReferenceIdeal.Gen.reducesTo_S8192x2048_S8192_d1 _ 0 0)⟩)
  · have hj := congrArg (fun i : Cert.ReferenceIdeal.S8192.Idx => (i 0).val) (Finset.mem_filter.mp hy).2
    have h0 : y 0 = j 0 := Fin.ext ((Shape.ReducesTo.drop_apply_val_of_eq Cert.ReferenceIdeal.Gen.reducesTo_S8192x2048_S8192_d1 y 0 0).symm.trans hj)
    rw [eq_ix2 y, h0]
    exact h (y 1)

/-- A device's part of the argument, and of the result. -/
noncomputable abbrev partIn (x : Cert.ReferenceIdeal.S8192x2048.Idx → Elt Ideal .bf16) (c : Dev nD) : S4096x1024.Idx → Elt Ideal .bf16 :=
  Layout.blockN ⟨2, ![4096, 1024]⟩ ⟨2, ![8192, 2048]⟩ (Layout.meshBlock [2, 2] ![[0], [1]] c) x
noncomputable abbrev partOut (y : Cert.ReferenceIdeal.S8192x1.Idx → Elt Ideal .bf16) (c : Dev nD) : S4096x1.Idx → Elt Ideal .bf16 :=
  Layout.blockN ⟨2, ![4096, 1]⟩ ⟨2, ![8192, 1]⟩ (Layout.meshBlock [2, 2] ![[0], []] c) y

/-- Entry `(r, k)` of device `c`'s part is the array's entry `4096 (c / 2)` rows and `1024 (c % 2)` columns further. -/
theorem partIn_at (x : Cert.ReferenceIdeal.S8192x2048.Idx → Elt Ideal .bf16) (c : Dev nD) (r : Fin 4096) (k : Fin 1024)
    (R : Fin 8192) (K : Fin 2048) (hR : R.val = 4096 * (c.val / 2) + r.val) (hK : K.val = 1024 * (c.val % 2) + k.val) :
    partIn x c (ix2 r k) = x (ix2 R K) := by
  have hc : c.val < 4 := c.isLt
  refine congrArg x (funext fun a => ?_)
  match a with
  | ⟨0, _⟩ =>
    refine Fin.ext ?_
    show (c.val / 2 % 2 * 1 + 0) * 4096 + r.val = R.val
    omega
  | ⟨1, _⟩ =>
    refine Fin.ext ?_
    show (c.val / 1 % 2 * 1 + 0) * 1024 + k.val = K.val
    omega

/-- Each device's result is its part of the reference's. -/
theorem column_eq (x : Cert.ReferenceIdeal.S8192x2048.Idx → Elt Ideal .bf16) (c : Dev nD) :
    column (fun d => partIn x d) c = partOut (wanted x) c := by
  have hc : c.val < 4 := c.isLt
  have hp : (peer c).val = (2 * (c.val / 2) + 1) - c.val % 2 := rfl
  refine funext fun i => ?_
  obtain ⟨r, hr⟩ : ∃ r : Fin 4096, (i 0).val = r.val := ⟨i 0, rfl⟩
  obtain ⟨j, R, hj, hR, hRv⟩ : ∃ (j : Cert.ReferenceIdeal.S8192x1.Idx) (R : Fin 8192), partOut (wanted x) c i = wanted x j ∧ j 0 = R
      ∧ R.val = 4096 * (c.val / 2) + r.val := by
    refine ⟨_, _, rfl, rfl, ?_⟩
    show (c.val / 2 % 2 * 1 + 0) * 4096 + (i 0).val = _
    omega
  have here : ∀ (k : Fin 1024) (K : Fin 2048), K.val = 1024 * (c.val % 2) + k.val → partIn x c (ix2 r k) = x (ix2 R K) :=
    fun k K h => partIn_at x c r k R K (by omega) h
  have there : ∀ (k : Fin 1024) (K : Fin 2048), K.val = 1024 * (1 - c.val % 2) + k.val → partIn x (peer c) (ix2 r k) = x (ix2 R K) :=
    fun k K h => partIn_at x (peer c) r k R K (by omega) (by omega)
  rw [hj]
  refine eq_of_forall_ge_iff (α := EReal) fun t => (column_le _ c i r hr t).trans ((and_congr_right fun _ => ?_).trans (wanted_le x j R hR t).symm)
  constructor
  · intro h K
    have hK := K.isLt
    have hm : K.val % 1024 < 1024 := Nat.mod_lt _ (by decide)
    by_cases e : K.val / 1024 = c.val % 2
    · exact here ⟨K.val % 1024, hm⟩ K (by show K.val = 1024 * (c.val % 2) + K.val % 1024; omega) ▸ (h ⟨K.val % 1024, hm⟩).1
    · exact there ⟨K.val % 1024, hm⟩ K (by show K.val = 1024 * (1 - c.val % 2) + K.val % 1024; omega) ▸ (h ⟨K.val % 1024, hm⟩).2
  · intro h k
    have hk := k.isLt
    exact ⟨here k ⟨1024 * (c.val % 2) + k.val, by omega⟩ rfl ▸ h _, there k ⟨1024 * (1 - c.val % 2) + k.val, by omega⟩ rfl ▸ h _⟩

end RowMax
-- ==== Proof.lean ====
/-
  The certificate of the row-maximum kernel on a 2×2 mesh: it runs, keeps its argument and leaves every counter at zero, at bit
  patterns and at exact arithmetic; so does the reference; and each device's result is its part of the reference's.
-/
module

public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

section
variable {F : FTy → Type} [FloatOps F]

/-- The kernel's two printings, as it stands and for exact arithmetic, have the same body table. -/
theorem kernels_same : Cert.Kernel.defs₀ (F := F) = Cert.KernelIdeal.defs₀ (F := F) :=
  congrArg Defs.onTc (funext fun l => match l with
    | ⟨0, _⟩ => rfl
    | ⟨_ + 1, h⟩ => absurd h (Nat.not_lt.2 (Nat.le_add_left _ _)))

/-- So they have the same table of regions. -/
theorem bodies_same : Cert.Kernel.defs (F := F) = Cert.KernelIdeal.defs (F := F) :=
  congrArg (Pipeline.defs Cert.KernelIdeal.pcfgs) kernels_same

end

/-- The kernel runs at bit patterns, keeps its argument and leaves every counter at zero. -/
theorem kernel_frame : quiescent_Kernel := fun m g _ => by
  have h := (θ_run (Cert.KernelIdeal.defs (F := Bits)) _ _).mono (fun _ h => And.intro (fun c => (h.1 c).1) h.2) (RowMax.run_main (F := Bits) m g)
  rw [← bodies_same] at h
  exact h

/-- So does the kernel read at exact arithmetic. -/
theorem ideal_frame : quiescent_KernelIdeal := fun m g _ =>
  (θ_run (Cert.KernelIdeal.defs (F := Ideal)) _ _).mono (fun _ h => ⟨fun c => (h.1 c).1, h.2⟩) (RowMax.run_main (F := Ideal) m g)

/-- So does the reference, which has no counters. -/
theorem reference_frame : quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- Each device ends with its part of the maxima the reference computes from the whole array. -/
theorem same_value : algebraic_KernelIdeal_ReferenceIdeal := by
  intro m g m' g' _ hm
  refine ⟨RowMax.wanted (m' (((0 : Dev Cert.ReferenceIdeal.nD).tc : Thread Cert.ReferenceIdeal.nD Cert.ReferenceIdeal.τ).loc Cert.ReferenceIdeal.main_arg0)), ?_, ?_⟩
  · have e : RowMax.args m = fun d => RowMax.partIn (m' (((0 : Dev Cert.ReferenceIdeal.nD).tc : Thread Cert.ReferenceIdeal.nD Cert.ReferenceIdeal.τ).loc Cert.ReferenceIdeal.main_arg0)) d :=
      funext hm
    refine (θ_run (Cert.KernelIdeal.defs (F := Ideal)) _ _).mono (fun r h c => ⟨((h.1 c).2.trans ?_), (h.1 c).1⟩) (RowMax.run_main (F := Ideal) m g)
    rw [e]
    exact RowMax.column_eq _ c
  · exact (θ_run (Cert.ReferenceIdeal.defs (F := Ideal)) _ _).mono (fun r h => h 0) (Cert.ReferenceIdeal.Value.run (F := Ideal) m' g')

/-- All the claims together. -/
theorem claim : Cert.Claim := ⟨Cert.Kernel.Gen.facts, Cert.KernelIdeal.Gen.facts, Cert.ReferenceIdeal.Gen.facts,
  kernel_frame, ideal_frame, reference_frame, trivial, same_value⟩

end Cert.Proof

end
